-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Dsa (m : (ℓ : Loc Cert.Dsa.nD Cert.Dsa.τ Cert.Dsa.sig) → Buf (Elt Bits) ℓ) : Prop :=
  True

def Pre_DsaIdeal (m : (ℓ : Loc Cert.DsaIdeal.nD Cert.DsaIdeal.τ Cert.DsaIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_Dsa [hDsa : Cert.Dsa.Facts] : Prop :=
  ∀ (m : (ℓ : Loc Cert.Dsa.nD Cert.Dsa.τ Cert.Dsa.sig) → Buf (Elt Bits) ℓ) (g : Dev Cert.Dsa.nD → PrngReg), Pre_Dsa m →
    θ_run (Cert.Dsa.defs (F := Bits)) (onTc (τ := Cert.Dsa.τ) (Cert.Dsa.main (F := Bits))) ⟨m, fun _ => 0, g⟩ (fun r => (∀ c : Dev Cert.Dsa.nD,
      r.2.mem ((c.tc : Thread Cert.Dsa.nD Cert.Dsa.τ).loc Cert.Dsa.main_arg0) = m ((c.tc : Thread Cert.Dsa.nD Cert.Dsa.τ).loc Cert.Dsa.main_arg0)
      ∧ r.2.mem ((c.tc : Thread Cert.Dsa.nD Cert.Dsa.τ).loc Cert.Dsa.main_arg1) = m ((c.tc : Thread Cert.Dsa.nD Cert.Dsa.τ).loc Cert.Dsa.main_arg1)
      ∧ r.2.mem ((c.tc : Thread Cert.Dsa.nD Cert.Dsa.τ).loc Cert.Dsa.main_arg2) = m ((c.tc : Thread Cert.Dsa.nD Cert.Dsa.τ).loc Cert.Dsa.main_arg2)
      ∧ r.2.mem ((c.tc : Thread Cert.Dsa.nD Cert.Dsa.τ).loc Cert.Dsa.main_arg3) = m ((c.tc : Thread Cert.Dsa.nD Cert.Dsa.τ).loc Cert.Dsa.main_arg3)
      ∧ r.2.mem ((c.tc : Thread Cert.Dsa.nD Cert.Dsa.τ).loc Cert.Dsa.main_arg4) = m ((c.tc : Thread Cert.Dsa.nD Cert.Dsa.τ).loc Cert.Dsa.main_arg4)
      ∧ r.2.mem ((c.tc : Thread Cert.Dsa.nD Cert.Dsa.τ).loc Cert.Dsa.main_arg5) = m ((c.tc : Thread Cert.Dsa.nD Cert.Dsa.τ).loc Cert.Dsa.main_arg5)
      ∧ r.2.mem ((c.tc : Thread Cert.Dsa.nD Cert.Dsa.τ).loc Cert.Dsa.main_arg6) = m ((c.tc : Thread Cert.Dsa.nD Cert.Dsa.τ).loc Cert.Dsa.main_arg6))
      ∧ r.2.sem = fun _ => 0)

def quiescent_DsaIdeal [hDsaIdeal : Cert.DsaIdeal.Facts] : Prop :=
  ∀ (m : (ℓ : Loc Cert.DsaIdeal.nD Cert.DsaIdeal.τ Cert.DsaIdeal.sig) → Buf (Elt Ideal) ℓ) (g : Dev Cert.DsaIdeal.nD → PrngReg), Pre_DsaIdeal m →
    θ_run (Cert.DsaIdeal.defs (F := Ideal)) (onTc (τ := Cert.DsaIdeal.τ) (Cert.DsaIdeal.main (F := Ideal))) ⟨m, fun _ => 0, g⟩ (fun r => (∀ c : Dev Cert.DsaIdeal.nD,
      r.2.mem ((c.tc : Thread Cert.DsaIdeal.nD Cert.DsaIdeal.τ).loc Cert.DsaIdeal.main_arg0) = m ((c.tc : Thread Cert.DsaIdeal.nD Cert.DsaIdeal.τ).loc Cert.DsaIdeal.main_arg0)
      ∧ r.2.mem ((c.tc : Thread Cert.DsaIdeal.nD Cert.DsaIdeal.τ).loc Cert.DsaIdeal.main_arg1) = m ((c.tc : Thread Cert.DsaIdeal.nD Cert.DsaIdeal.τ).loc Cert.DsaIdeal.main_arg1)
      ∧ r.2.mem ((c.tc : Thread Cert.DsaIdeal.nD Cert.DsaIdeal.τ).loc Cert.DsaIdeal.main_arg2) = m ((c.tc : Thread Cert.DsaIdeal.nD Cert.DsaIdeal.τ).loc Cert.DsaIdeal.main_arg2)
      ∧ r.2.mem ((c.tc : Thread Cert.DsaIdeal.nD Cert.DsaIdeal.τ).loc Cert.DsaIdeal.main_arg3) = m ((c.tc : Thread Cert.DsaIdeal.nD Cert.DsaIdeal.τ).loc Cert.DsaIdeal.main_arg3)
      ∧ r.2.mem ((c.tc : Thread Cert.DsaIdeal.nD Cert.DsaIdeal.τ).loc Cert.DsaIdeal.main_arg4) = m ((c.tc : Thread Cert.DsaIdeal.nD Cert.DsaIdeal.τ).loc Cert.DsaIdeal.main_arg4)
      ∧ r.2.mem ((c.tc : Thread Cert.DsaIdeal.nD Cert.DsaIdeal.τ).loc Cert.DsaIdeal.main_arg5) = m ((c.tc : Thread Cert.DsaIdeal.nD Cert.DsaIdeal.τ).loc Cert.DsaIdeal.main_arg5)
      ∧ r.2.mem ((c.tc : Thread Cert.DsaIdeal.nD Cert.DsaIdeal.τ).loc Cert.DsaIdeal.main_arg6) = m ((c.tc : Thread Cert.DsaIdeal.nD Cert.DsaIdeal.τ).loc Cert.DsaIdeal.main_arg6))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v9)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v9) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v39) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v90_0)) (v1 : (c : Dev Cert.ProjIdeal.nD) → Buf (Elt Ideal) ((c.tc : Thread Cert.ProjIdeal.nD Cert.ProjIdeal.τ).loc Cert.ProjIdeal.main_v90_1)) (v2 : (c : Dev Cert.ProjIdeal.nD) → Buf (Elt Ideal) ((c.tc : Thread Cert.ProjIdeal.nD Cert.ProjIdeal.τ).loc Cert.ProjIdeal.main_v90_2)) (v3 : (c : Dev Cert.ProjIdeal.nD) → Buf (Elt Ideal) ((c.tc : Thread Cert.ProjIdeal.nD Cert.ProjIdeal.τ).loc Cert.ProjIdeal.main_v90_3)) (v4 : (c : Dev Cert.ProjIdeal.nD) → Buf (Elt Ideal) ((c.tc : Thread Cert.ProjIdeal.nD Cert.ProjIdeal.τ).loc Cert.ProjIdeal.main_v90_4)) (v5 : (c : Dev Cert.ProjIdeal.nD) → Buf (Elt Ideal) ((c.tc : Thread Cert.ProjIdeal.nD Cert.ProjIdeal.τ).loc Cert.ProjIdeal.main_v90_5)) (v6 : (c : Dev Cert.ProjIdeal.nD) → Buf (Elt Ideal) ((c.tc : Thread Cert.ProjIdeal.nD Cert.ProjIdeal.τ).loc Cert.ProjIdeal.main_v90_6)) (v7 : (c : Dev Cert.ProjIdeal.nD) → Buf (Elt Ideal) ((c.tc : Thread Cert.ProjIdeal.nD Cert.ProjIdeal.τ).loc Cert.ProjIdeal.main_v90_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v90_0) = v0 c
          ∧ r.2.mem ((c.tc : Thread Cert.ProjIdeal.nD Cert.ProjIdeal.τ).loc Cert.ProjIdeal.main_v90_1) = v1 c
          ∧ r.2.mem ((c.tc : Thread Cert.ProjIdeal.nD Cert.ProjIdeal.τ).loc Cert.ProjIdeal.main_v90_2) = v2 c
          ∧ r.2.mem ((c.tc : Thread Cert.ProjIdeal.nD Cert.ProjIdeal.τ).loc Cert.ProjIdeal.main_v90_3) = v3 c
          ∧ r.2.mem ((c.tc : Thread Cert.ProjIdeal.nD Cert.ProjIdeal.τ).loc Cert.ProjIdeal.main_v90_4) = v4 c
          ∧ r.2.mem ((c.tc : Thread Cert.ProjIdeal.nD Cert.ProjIdeal.τ).loc Cert.ProjIdeal.main_v90_5) = v5 c
          ∧ r.2.mem ((c.tc : Thread Cert.ProjIdeal.nD Cert.ProjIdeal.τ).loc Cert.ProjIdeal.main_v90_6) = v6 c
          ∧ r.2.mem ((c.tc : Thread Cert.ProjIdeal.nD Cert.ProjIdeal.τ).loc Cert.ProjIdeal.main_v90_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v442) = v0 c
          ∧ r.2.mem ((c.tc : Thread Cert.ProjRefIdeal.nD Cert.ProjRefIdeal.τ).loc Cert.ProjRefIdeal.main_v444) = v1 c
          ∧ r.2.mem ((c.tc : Thread Cert.ProjRefIdeal.nD Cert.ProjRefIdeal.τ).loc Cert.ProjRefIdeal.main_v445) = v2 c
          ∧ r.2.mem ((c.tc : Thread Cert.ProjRefIdeal.nD Cert.ProjRefIdeal.τ).loc Cert.ProjRefIdeal.main_v447) = v3 c
          ∧ r.2.mem ((c.tc : Thread Cert.ProjRefIdeal.nD Cert.ProjRefIdeal.τ).loc Cert.ProjRefIdeal.main_v449) = v4 c
          ∧ r.2.mem ((c.tc : Thread Cert.ProjRefIdeal.nD Cert.ProjRefIdeal.τ).loc Cert.ProjRefIdeal.main_v451) = v5 c
          ∧ r.2.mem ((c.tc : Thread Cert.ProjRefIdeal.nD Cert.ProjRefIdeal.τ).loc Cert.ProjRefIdeal.main_v452) = v6 c
          ∧ r.2.mem ((c.tc : Thread Cert.ProjRefIdeal.nD Cert.ProjRefIdeal.τ).loc Cert.ProjRefIdeal.main_v453) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def preserves_Dsa_DsaIdeal : Prop :=
  True

def Claim : Prop :=
  ∃ (hMlp : Cert.Mlp.Facts) (hMlpIdeal : Cert.MlpIdeal.Facts) (hMlpRefIdeal : Cert.MlpRefIdeal.Facts) (hProj : Cert.Proj.Facts) (hProjIdeal : Cert.ProjIdeal.Facts) (hProjRefIdeal : Cert.ProjRefIdeal.Facts) (hDsa : Cert.Dsa.Facts) (hDsaIdeal : Cert.DsaIdeal.Facts),
    quiescent_Mlp (hMlp := hMlp)
    ∧ quiescent_MlpIdeal (hMlpIdeal := hMlpIdeal)
    ∧ quiescent_MlpRefIdeal (hMlpRefIdeal := hMlpRefIdeal)
    ∧ quiescent_Proj (hProj := hProj)
    ∧ quiescent_ProjIdeal (hProjIdeal := hProjIdeal)
    ∧ quiescent_ProjRefIdeal (hProjRefIdeal := hProjRefIdeal)
    ∧ quiescent_Dsa (hDsa := hDsa)
    ∧ quiescent_DsaIdeal (hDsaIdeal := hDsaIdeal)
    ∧ preserves_Mlp_MlpIdeal
    ∧ algebraic_MlpIdeal_MlpRefIdeal (hMlpIdeal := hMlpIdeal) (hMlpRefIdeal := hMlpRefIdeal)
    ∧ preserves_Proj_ProjIdeal
    ∧ algebraic_ProjIdeal_ProjRefIdeal (hProjIdeal := hProjIdeal) (hProjRefIdeal := hProjRefIdeal)
    ∧ preserves_Dsa_DsaIdeal
-- ==== Mlp.lean ====
abbrev S4x8192x1024 : Shape := ⟨3, ![4, 8192, 1024]⟩
abbrev S4x8192x512 : Shape := ⟨3, ![4, 8192, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x1024 : Shape := ⟨2, ![1024, 1024]⟩
abbrev S512x1024 : Shape := ⟨2, ![512, 1024]⟩
abbrev S1024x4096 : Shape := ⟨2, ![1024, 4096]⟩
abbrev S4096x1024 : Shape := ⟨2, ![4096, 1024]⟩
abbrev S1x512x1024 : Shape := ⟨3, ![1, 512, 1024]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩

abbrev nBuf : Space → Nat
  | .hbm => 18
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1024, .f32⟩
  | .hbm, ⟨8, _⟩ => ⟨S1024x1024, .f32⟩
  | .hbm, ⟨9, _⟩ => ⟨S1024x1024, .bf16⟩
  | .hbm, ⟨10, _⟩ => ⟨S512x1024, .bf16⟩
  | .hbm, ⟨11, _⟩ => ⟨S512x1024, .bf16⟩
  | .hbm, ⟨12, _⟩ => ⟨S1024x4096, .f32⟩
  | .hbm, ⟨13, _⟩ => ⟨S1024x4096, .bf16⟩
  | .hbm, ⟨14, _⟩ => ⟨S4096x1024, .f32⟩
  | .hbm, ⟨15, _⟩ => ⟨S4096x1024, .bf16⟩
  | .hbm, ⟨16, _⟩ => ⟨S1x1024, .f32⟩
  | .hbm, ⟨17, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MlpRefIdeal.lean ====
abbrev S4x8192x1024 : Shape := ⟨3, ![4, 8192, 1024]⟩
abbrev S4x8192x512 : Shape := ⟨3, ![4, 8192, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x1024 : Shape := ⟨2, ![1024, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x4096 : Shape := ⟨2, ![1024, 4096]⟩
abbrev S4x8192x4096 : Shape := ⟨3, ![4, 8192, 4096]⟩
abbrev S4096x1024 : Shape := ⟨2, ![4096, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1024, .f32⟩
  | .hbm, ⟨8, _⟩ => ⟨S4x8192x512, .f32⟩
  | .hbm, ⟨9, _⟩ => ⟨S4x8192x512, .f32⟩
  | .hbm, ⟨10, _⟩ => ⟨S4x8192x1024, .f32⟩
  | .hbm, ⟨11, _⟩ => ⟨S1024x1024, .f32⟩
  | .hbm, ⟨12, _⟩ => ⟨S4x8192x1024, .f32⟩
  | .hbm, ⟨13, _⟩ => ⟨S4x8192x1024, .f32⟩
  | .hbm, ⟨14, _⟩ => ⟨S1024, .f32⟩
  | .hbm, ⟨15, _⟩ => ⟨S4x8192x1024, .f32⟩
  | .hbm, ⟨16, _⟩ => ⟨S_, .f32⟩
  | .hbm, ⟨17, _⟩ => ⟨S4x8192, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S4x8192x1, .f32⟩
  | .hbm, ⟨26, _⟩ => ⟨S4x8192x1024, .f32⟩
  | .hbm, ⟨27, _⟩ => ⟨S4x8192x1024, .f32⟩
  | .hbm, ⟨28, _⟩ => ⟨S1x1x1024, .f32⟩
  | .hbm, ⟨29, _⟩ => ⟨S4x8192x1024, .f32⟩
  | .hbm, ⟨30, _⟩ => ⟨S4x8192x1024, .f32⟩
  | .hbm, ⟨31, _⟩ => ⟨S1024x4096, .f32⟩
  | .hbm, ⟨32, _⟩ => ⟨S4x8192x4096, .f32⟩
  | .hbm, ⟨33, _⟩ => ⟨S_, .f32⟩
  | .hbm, ⟨34, _⟩ => ⟨S4x8192x4096, .f32⟩
  | .hbm, ⟨35, _⟩ => ⟨S4x8192x4096, .f32⟩
  | .hbm, ⟨36, _⟩ => ⟨S4x8192x4096, .f32⟩
  | .hbm, ⟨37, _⟩ => ⟨S4096x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S_, .f32⟩
  | .hbm, ⟨45, _⟩ => ⟨S4x8192x1, .f32⟩
  | .hbm, ⟨46, _⟩ => ⟨S4x8192x1, .f32⟩
  | .hbm, ⟨47, _⟩ => ⟨S_, .f32⟩
  | .hbm, ⟨48, _⟩ => ⟨S4x8192x1, .f32⟩
  | .hbm, ⟨49, _⟩ => ⟨S4x8192x1, .f32⟩
  | .hbm, ⟨50, _⟩ => ⟨S4x8192x1, .f32⟩
  | .hbm, ⟨51, _⟩ => ⟨S4x8192x1024, .f32⟩
  | .hbm, ⟨52, _⟩ => ⟨S4x8192x1024, .f32⟩
  | .hbm, ⟨53, _⟩ => ⟨S1x1x1024, .f32⟩
  | .hbm, ⟨54, _⟩ => ⟨S4x8192x1024, .f32⟩
  | .hbm, ⟨55, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Proj.lean ====
abbrev S4x8192x1024 : Shape := ⟨3, ![4, 8192, 1024]⟩
abbrev S16x1024 : Shape := ⟨2, ![16, 1024]⟩
abbrev S1x1024 : Shape := ⟨2, ![1, 1024]⟩
abbrev S1x1024x3144 : Shape := ⟨3, ![1, 1024, 3144]⟩
abbrev S1x31x512 : Shape := ⟨3, ![1, 31, 512]⟩
abbrev S1x512 : Shape := ⟨2, ![1, 512]⟩
abbrev S1024x3144 : Shape := ⟨2, ![1024, 3144]⟩
abbrev S1024x2048 : Shape := ⟨2, ![1024, 2048]⟩
abbrev S1024x1024 : Shape := ⟨2, ![1024, 1024]⟩
abbrev S1024x72 : Shape := ⟨2, ![1024, 72]⟩
abbrev S_ : Shape := ⟨0, ![]⟩
abbrev S1024x56 : Shape := ⟨2, ![1024, 56]⟩
abbrev S1024x3200 : Shape := ⟨2, ![1024, 3200]⟩
abbrev S240x1024 : Shape := ⟨2, ![240, 1024]⟩
abbrev S256x1024 : Shape := ⟨2, ![256, 1024]⟩
abbrev S16 : Shape := ⟨1, ![16]⟩
abbrev S8448 : Shape := ⟨1, ![8448]⟩
abbrev S8448x1 : Shape := ⟨2, ![8448, 1]⟩
abbrev S1x16 : Shape := ⟨2, ![1, 16]⟩
abbrev S8448x16 : Shape := ⟨2, ![8448, 16]⟩
abbrev S8448x96 : Shape := ⟨2, ![8448, 96]⟩
abbrev S8448x128 : Shape := ⟨2, ![8448, 128]⟩
abbrev S1x8448x1x128 : Shape := ⟨4, ![1, 8448, 1, 128]⟩
abbrev S1x8448x128 : Shape := ⟨3, ![1, 8448, 128]⟩
abbrev S3x8448x128 : Shape := ⟨3, ![3, 8448, 128]⟩
abbrev S8 : Shape := ⟨1, ![8]⟩
abbrev S1x8 : Shape := ⟨2, ![1, 8]⟩
abbrev S8448x8 : Shape := ⟨2, ![8448, 8]⟩
abbrev S8448x48 : Shape := ⟨2, ![8448, 48]⟩
abbrev S8448x64 : Shape := ⟨2, ![8448, 64]⟩
abbrev S1x8448x1x64 : Shape := ⟨4, ![1, 8448, 1, 64]⟩
abbrev S1x8448x2x64 : Shape := ⟨4, ![1, 8448, 2, 64]⟩
abbrev S31x512 : Shape := ⟨2, ![31, 512]⟩
abbrev S4x8192x512 : Shape := ⟨3, ![4, 8192, 512]⟩
abbrev S4x8192x128 : Shape := ⟨3, ![4, 8192, 128]⟩
abbrev S4x8448x512 : Shape := ⟨3, ![4, 8448, 512]⟩
abbrev S4x8448x128 : Shape := ⟨3, ![4, 8448, 128]⟩
abbrev S1x256x1024 : Shape := ⟨3, ![1, 256, 1024]⟩
abbrev S3x256x128 : Shape := ⟨3, ![3, 256, 128]⟩
abbrev S1x256x512 : Shape := ⟨3, ![1, 256, 512]⟩
abbrev S1x256x128 : Shape := ⟨3, ![1, 256, 128]⟩
abbrev S288x512 : Shape := ⟨2, ![288, 512]⟩
abbrev S256 : Shape := ⟨1, ![256]⟩
abbrev S256x1 : Shape := ⟨2, ![256, 1]⟩
abbrev S256x3200 : Shape := ⟨2, ![256, 3200]⟩
abbrev S256x128 : Shape := ⟨2, ![256, 128]⟩
abbrev S256x512 : Shape := ⟨2, ![256, 512]⟩
abbrev S32x512 : Shape := ⟨2, ![32, 512]⟩
abbrev S280x512 : Shape := ⟨2, ![280, 512]⟩
abbrev S272x512 : Shape := ⟨2, ![272, 512]⟩
abbrev S1x128 : Shape := ⟨2, ![1, 128]⟩

abbrev nBuf : Space → Nat
  | .hbm => 124
  | .vmem => 31
  | .smem => 0
  | _ => 0

abbrev bufTy : (tb : Table) → Fin (tcTables nBuf tb) → BufTy
  | .hbm, ⟨0, _⟩ => ⟨S4x8192x1024, .f32⟩
  | .hbm, ⟨1, _⟩ => ⟨S16x1024, .f32⟩
  | .hbm, ⟨2, _⟩ => ⟨S1x1024, .f32⟩
  | .hbm, ⟨3, _⟩ => ⟨S1x1024x3144, .f32⟩
  | .hbm, ⟨4, _⟩ => ⟨S1x31x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1024x3144, .f32⟩
  | .hbm, ⟨9, _⟩ => ⟨S1024x2048, .f32⟩
  | .hbm, ⟨10, _⟩ => ⟨S1024x1024, .f32⟩
  | .hbm, ⟨11, _⟩ => ⟨S1024x72, .f32⟩
  | .hbm, ⟨12, _⟩ => ⟨S_, .f32⟩
  | .hbm, ⟨13, _⟩ => ⟨S1024x56, .f32⟩
  | .hbm, ⟨14, _⟩ => ⟨S1024x3200, .f32⟩
  | .hbm, ⟨15, _⟩ => ⟨S1024x3200, .bf16⟩
  | .hbm, ⟨16, _⟩ => ⟨S_, .f32⟩
  | .hbm, ⟨17, _⟩ => ⟨S240x1024, .f32⟩
  | .hbm, ⟨18, _⟩ => ⟨S256x1024, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S8448, .f32⟩
  | .hbm, ⟨34, _⟩ => ⟨S_, .f32⟩
  | .hbm, ⟨35, _⟩ => ⟨S8448, .f32⟩
  | .hbm, ⟨36, _⟩ => ⟨S8448, .f32⟩
  | .hbm, ⟨37, _⟩ => ⟨S8448x1, .f32⟩
  | .hbm, ⟨38, _⟩ => ⟨S1x16, .f32⟩
  | .hbm, ⟨39, _⟩ => ⟨S8448x16, .f32⟩
  | .hbm, ⟨40, _⟩ => ⟨S8448x16, .f32⟩
  | .hbm, ⟨41, _⟩ => ⟨S8448x16, .f32⟩
  | .hbm, ⟨42, _⟩ => ⟨S8448x16, .f32⟩
  | .hbm, ⟨43, _⟩ => ⟨S8448x16, .f32⟩
  | .hbm, ⟨44, _⟩ => ⟨S_, .f32⟩
  | .hbm, ⟨45, _⟩ => ⟨S8448x96, .f32⟩
  | .hbm, ⟨46, _⟩ => ⟨S_, .f32⟩
  | .hbm, ⟨47, _⟩ => ⟨S8448x96, .f32⟩
  | .hbm, ⟨48, _⟩ => ⟨S_, .f32⟩
  | .hbm, ⟨49, _⟩ => ⟨S8448x16, .f32⟩
  | .hbm, ⟨50, _⟩ => ⟨S8448x128, .f32⟩
  | .hbm, ⟨51, _⟩ => ⟨S8448x128, .f32⟩
  | .hbm, ⟨52, _⟩ => ⟨S8448x16, .f32⟩
  | .hbm, ⟨53, _⟩ => ⟨S8448x128, .f32⟩
  | .hbm, ⟨54, _⟩ => ⟨S1x8448x1x128, .f32⟩
  | .hbm, ⟨55, _⟩ => ⟨S1x8448x1x128, .f32⟩
  | .hbm, ⟨56, _⟩ => ⟨S8448x128, .f32⟩
  | .hbm, ⟨57, _⟩ => ⟨S1x8448x1x128, .f32⟩
  | .hbm, ⟨58, _⟩ => ⟨S1x8448x1x128, .f32⟩
  | .hbm, ⟨59, _⟩ => ⟨S8448x128, .f32⟩
  | .hbm, ⟨60, _⟩ => ⟨S1x8448x1x128, .f32⟩
  | .hbm, ⟨61, _⟩ => ⟨S1x8448x1x128, .f32⟩
  | .hbm, ⟨62, _⟩ => ⟨S8448x128, .f32⟩
  | .hbm, ⟨63, _⟩ => ⟨S1x8448x128, .f32⟩
  | .hbm, ⟨64, _⟩ => ⟨S1x8448x128, .f32⟩
  | .hbm, ⟨65, _⟩ => ⟨S1x8448x128, .f32⟩
  | .hbm, ⟨66, _⟩ => ⟨S3x8448x128, .f32⟩
  | .hbm, ⟨67, _⟩ => ⟨S8, .f32⟩
  | .hbm, ⟨68, _⟩ => ⟨S_, .f32⟩
  | .hbm, ⟨69, _⟩ => ⟨S8, .f32⟩
  | .hbm, ⟨70, _⟩ => ⟨S8, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S8, .f32⟩
  | .hbm, ⟨75, _⟩ => ⟨S_, .f32⟩
  | .hbm, ⟨76, _⟩ => ⟨S8, .f32⟩
  | .hbm, ⟨77, _⟩ => ⟨S8, .f32⟩
  | .hbm, ⟨78, _⟩ => ⟨S_, .f32⟩
  | .hbm, ⟨79, _⟩ => ⟨S8, .f32⟩
  | .hbm, ⟨80, _⟩ => ⟨S8, .f32⟩
  | .hbm, ⟨81, _⟩ => ⟨S8448, .f32⟩
  | .hbm, ⟨82, _⟩ => ⟨S_, .f32⟩
  | .hbm, ⟨83, _⟩ => ⟨S8448, .f32⟩
  | .hbm, ⟨84, _⟩ => ⟨S8448, .f32⟩
  | .hbm, ⟨85, _⟩ => ⟨S8448x1, .f32⟩
  | .hbm, ⟨86, _⟩ => ⟨S1x8, .f32⟩
  | .hbm, ⟨87, _⟩ => ⟨S8448x8, .f32⟩
  | .hbm, ⟨88, _⟩ => ⟨S8448x8, .f32⟩
  | .hbm, ⟨89, _⟩ => ⟨S8448x8, .f32⟩
  | .hbm, ⟨90, _⟩ => ⟨S8448x8, .f32⟩
  | .hbm, ⟨91, _⟩ => ⟨S8448x8, .f32⟩
  | .hbm, ⟨92, _⟩ => ⟨S_, .f32⟩
  | .hbm, ⟨93, _⟩ => ⟨S8448x48, .f32⟩
  | .hbm, ⟨94, _⟩ => ⟨S_, .f32⟩
  | .hbm, ⟨95, _⟩ => ⟨S8448x48, .f32⟩
  | .hbm, ⟨96, _⟩ => ⟨S_, .f32⟩
  | .hbm, ⟨97, _⟩ => ⟨S8448x8, .f32⟩
  | .hbm, ⟨98, _⟩ => ⟨S8448x64, .f32⟩
  | .hbm, ⟨99, _⟩ => ⟨S8448x64, .f32⟩
  | .hbm, ⟨100, _⟩ => ⟨S8448x8, .f32⟩
  | .hbm, ⟨101, _⟩ => ⟨S8448x64, .f32⟩
  | .hbm, ⟨102, _⟩ => ⟨S1x8448x1x64, .f32⟩
  | .hbm, ⟨103, _⟩ => ⟨S1x8448x2x64, .f32⟩
  | .hbm, ⟨104, _⟩ => ⟨S8448x128, .f32⟩
  | .hbm, ⟨105, _⟩ => ⟨S1x8448x1x64, .f32⟩
  | .hbm, ⟨106, _⟩ => ⟨S1x8448x2x64, .f32⟩
  | .hbm, ⟨107, _⟩ => ⟨S8448x128, .f32⟩
  | .hbm, ⟨108, _⟩ => ⟨S1x8448x1x64, .f32⟩
  | .hbm, ⟨109, _⟩ => ⟨S1x8448x2x64, .f32⟩
  | .hbm, ⟨110, _⟩ => ⟨S8448x128, .f32⟩
  | .hbm, ⟨111, _⟩ => ⟨S1x8448x128, .f32⟩
  | .hbm, ⟨112, _⟩ => ⟨S1x8448x128, .f32⟩
  | .hbm, ⟨113, _⟩ => ⟨S1x8448x128, .f32⟩
  | .hbm, ⟨114, _⟩ => ⟨S3x8448x128, .f32⟩
  | .hbm, ⟨115, _⟩ => ⟨S31x512, .f32⟩
  | .hbm, ⟨116, _⟩ => ⟨S4x8192x512, .bf16⟩
  | .hbm, ⟨117, _⟩ => ⟨S4x8192x512, .bf16⟩
  | .hbm, ⟨118, _⟩ => ⟨S4x8192x128, .f32⟩
  | .hbm, ⟨119, _⟩ => ⟨S4x8192x512, .bf16⟩
  | .hbm, ⟨120, _⟩ => ⟨S4x8448x512, .bf16⟩
  | .hbm, ⟨121, _⟩ => ⟨S4x8448x512, .bf16⟩
  | .hbm, ⟨122, _⟩ => ⟨S4x8448x128, .bf16⟩
  | .hbm, ⟨123, _⟩ => ⟨S4x8448x128, .bf16⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S1x1024, .f32⟩
  | .local _ .vmem, ⟨4, _⟩ => ⟨S1024x3200, .bf16⟩
  | .local _ .vmem, ⟨5, _⟩ => ⟨S3x256x128, .f32⟩
  | .local _ .vmem, ⟨6, _⟩ => ⟨S3x256x128, .f32⟩
  | .local _ .vmem, ⟨7, _⟩ => ⟨S3x256x128, .f32⟩
  | .local _ .vmem, ⟨8, _⟩ => ⟨S3x256x128, .f32⟩
  | .local _ .vmem, ⟨9, _⟩ => ⟨S31x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x128, .f32⟩
  | .local _ .vmem, ⟨18, _⟩ => ⟨S1x256x128, .f32⟩
  | .local _ .vmem, ⟨19, _⟩ => ⟨S1x256x512, .bf16⟩
  | .local _ .vmem, ⟨20, _⟩ => ⟨S1x256x512, .bf16⟩
  | .local _ .vmem, ⟨21, _⟩ => ⟨S1x256x512, .bf16⟩
  | .local _ .vmem, ⟨22, _⟩ => ⟨S1x256x512, .bf16⟩
  | .local _ .vmem, ⟨23, _⟩ => ⟨S1x256x512, .bf16⟩
  | .local _ .vmem, ⟨24, _⟩ => ⟨S1x256x512, .bf16⟩
  | .local _ .vmem, ⟨25, _⟩ => ⟨S1x256x128, .bf16⟩
  | .local _ .vmem, ⟨26, _⟩ => ⟨S1x256x128, .bf16⟩
  | .local _ .vmem, ⟨27, _⟩ => ⟨S1x256x128, .bf16⟩
  | .local _ .vmem, ⟨28, _⟩ => ⟨S1x256x128, .bf16⟩
  | .local _ .vmem, ⟨29, _⟩ => ⟨S288x512, .f32⟩
  | .local _ .vmem, ⟨30, _⟩ => ⟨S288x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_13 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_14 : Ref sig .tc := ⟨.hbm, 92, rfl⟩
abbrev main_v69 : Ref sig .tc := ⟨.hbm, 93, rfl⟩
abbrev main_cst_15 : Ref sig .tc := ⟨.hbm, 94, rfl⟩
abbrev main_v70 : Ref sig .tc := ⟨.hbm, 95, rfl⟩
abbrev main_cst_16 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90_0 : Ref sig .tc := ⟨.hbm, 116, rfl⟩
abbrev main_v90_1 : Ref sig .tc := ⟨.hbm, 117, rfl⟩
abbrev main_v90_2 : Ref sig .tc := ⟨.hbm, 118, rfl⟩
abbrev main_v90_3 : Ref sig .tc := ⟨.hbm, 119, rfl⟩
abbrev main_v90_4 : Ref sig .tc := ⟨.hbm, 120, rfl⟩
abbrev main_v90_5 : Ref sig .tc := ⟨.hbm, 121, rfl⟩
abbrev main_v90_6 : Ref sig .tc := ⟨.hbm, 122, rfl⟩
abbrev main_v90_7 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S3x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ProjRefIdeal.lean ====
abbrev S4x8192x1024 : Shape := ⟨3, ![4, 8192, 1024]⟩
abbrev S16x1024 : Shape := ⟨2, ![16, 1024]⟩
abbrev S1x1024 : Shape := ⟨2, ![1, 1024]⟩
abbrev S1x1024x3144 : Shape := ⟨3, ![1, 1024, 3144]⟩
abbrev S1x31x512 : Shape := ⟨3, ![1, 31, 512]⟩
abbrev S1x512 : Shape := ⟨2, ![1, 512]⟩
abbrev S1x16x1024 : Shape := ⟨3, ![1, 16, 1024]⟩
abbrev S4x16x1024 : Shape := ⟨3, ![4, 16, 1024]⟩
abbrev S4x8208x1024 : Shape := ⟨3, ![4, 8208, 1024]⟩
abbrev S1024 : Shape := ⟨1, ![1024]⟩
abbrev S_ : Shape := ⟨0, ![]⟩
abbrev S4x8208 : Shape := ⟨2, ![4, 8208]⟩
abbrev S4x8208x1 : Shape := ⟨3, ![4, 8208, 1]⟩
abbrev S1x1x1024 : Shape := ⟨3, ![1, 1, 1024]⟩
abbrev S1024x3144 : Shape := ⟨2, ![1024, 3144]⟩
abbrev S4x8208x3144 : Shape := ⟨3, ![4, 8208, 3144]⟩
abbrev S4x8208x512 : Shape := ⟨3, ![4, 8208, 512]⟩
abbrev S4x8208x64 : Shape := ⟨3, ![4, 8208, 64]⟩
abbrev S4x8208x8 : Shape := ⟨3, ![4, 8208, 8]⟩
abbrev S4x8208x4x128 : Shape := ⟨4, ![4, 8208, 4, 128]⟩
abbrev S16 : Shape := ⟨1, ![16]⟩
abbrev S8208 : Shape := ⟨1, ![8208]⟩
abbrev S8208x1 : Shape := ⟨2, ![8208, 1]⟩
abbrev S1x16 : Shape := ⟨2, ![1, 16]⟩
abbrev S8208x16 : Shape := ⟨2, ![8208, 16]⟩
abbrev S1x8208x1x16 : Shape := ⟨4, ![1, 8208, 1, 16]⟩
abbrev S4x8208x4x16 : Shape := ⟨4, ![4, 8208, 4, 16]⟩
abbrev S4x8208x4x96 : Shape := ⟨4, ![4, 8208, 4, 96]⟩
abbrev S4x8208x8x64 : Shape := ⟨4, ![4, 8208, 8, 64]⟩
abbrev S8 : Shape := ⟨1, ![8]⟩
abbrev S1x8 : Shape := ⟨2, ![1, 8]⟩
abbrev S8208x8 : Shape := ⟨2, ![8208, 8]⟩
abbrev S1x8208x1x8 : Shape := ⟨4, ![1, 8208, 1, 8]⟩
abbrev S4x8208x8x8 : Shape := ⟨4, ![4, 8208, 8, 8]⟩
abbrev S4x8208x8x48 : Shape := ⟨4, ![4, 8208, 8, 48]⟩
abbrev S4x8208x1x64 : Shape := ⟨4, ![4, 8208, 1, 64]⟩
abbrev S4x8208x1x8 : Shape := ⟨4, ![4, 8208, 1, 8]⟩
abbrev S4x8208x1x48 : Shape := ⟨4, ![4, 8208, 1, 48]⟩
abbrev S31x512 : Shape := ⟨2, ![31, 512]⟩
abbrev S512 : Shape := ⟨1, ![512]⟩
abbrev S4x8238x512 : Shape := ⟨3, ![4, 8238, 512]⟩
abbrev S1x1x512 : Shape := ⟨3, ![1, 1, 512]⟩
abbrev S4x8208x4 : Shape := ⟨3, ![4, 8208, 4]⟩
abbrev S4x8208x4x1 : Shape := ⟨4, ![4, 8208, 4, 1]⟩
abbrev S4x8208x56 : Shape := ⟨3, ![4, 8208, 56]⟩
abbrev S4x8208x128 : Shape := ⟨3, ![4, 8208, 128]⟩
abbrev S4x8448x128 : Shape := ⟨3, ![4, 8448, 128]⟩
abbrev S4x8192x512 : Shape := ⟨3, ![4, 8192, 512]⟩
abbrev S4x8192x128 : Shape := ⟨3, ![4, 8192, 128]⟩
abbrev S4x8448x512 : Shape := ⟨3, ![4, 8448, 512]⟩

abbrev nBuf : Space → Nat
  | .hbm => 511
  | .vmem => 0
  | .smem => 0
  | _ => 0

abbrev hbmTy0_0 (i : Nat) : BufTy := match i % 128 with
  | 0 => ⟨S4x8192x1024, .f32⟩
  | 1 => ⟨S16x1024, .f32⟩
  | 2 => ⟨S1x1024, .f32⟩
  | 3 => ⟨S1x1024x3144, .f32⟩
  | 4 => ⟨S1x31x512, .f32⟩
  | 5 => ⟨S1x512, .f32⟩
  | 6 => ⟨S1x512, .f32⟩
  | 7 => ⟨S1x512, .f32⟩
  | 8 => ⟨S1x16x1024, .f32⟩
  | 9 => ⟨S4x16x1024, .f32⟩
  | 10 => ⟨S4x8208x1024, .f32⟩
  | 11 => ⟨S1024, .f32⟩
  | 12 => ⟨S4x8208x1024, .f32⟩
  | 13 => ⟨S_, .f32⟩
  | 14 => ⟨S4x8208, .f32⟩
  | 15 => ⟨S4x8208x1, .f32⟩
  | 16 => ⟨S_, .f32⟩
  | 17 => ⟨S4x8208x1, .f32⟩
  | 18 => ⟨S4x8208x1, .f32⟩
  | 19 => ⟨S_, .f32⟩
  | 20 => ⟨S4x8208x1, .f32⟩
  | 21 => ⟨S4x8208x1, .f32⟩
  | 22 => ⟨S4x8208x1, .f32⟩
  | 23 => ⟨S4x8208x1024, .f32⟩
  | 24 => ⟨S4x8208x1024, .f32⟩
  | 25 => ⟨S1x1x1024, .f32⟩
  | 26 => ⟨S4x8208x1024, .f32⟩
  | 27 => ⟨S4x8208x1024, .f32⟩
  | 28 => ⟨S1024x3144, .f32⟩
  | 29 => ⟨S4x8208x3144, .f32⟩
  | 30 => ⟨S4x8208x512, .f32⟩
  | 31 => ⟨S4x8208x512, .f32⟩
  | 32 => ⟨S4x8208x512, .f32⟩
  | 33 => ⟨S4x8208x512, .f32⟩
  | 34 => ⟨S4x8208x64, .f32⟩
  | 35 => ⟨S4x8208x8, .f32⟩
  | 36 => ⟨S4x8208x512, .f32⟩
  | 37 => ⟨S4x8208x512, .f32⟩
  | 38 => ⟨S4x8208x4x128, .f32⟩
  | 39 => ⟨S16, .f32⟩
  | 40 => ⟨S_, .f32⟩
  | 41 => ⟨S16, .f32⟩
  | 42 => ⟨S16, .f32⟩
  | 43 => ⟨S_, .f32⟩
  | 44 => ⟨S16, .f32⟩
  | 45 => ⟨S16, .f32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S8208, .f32⟩
  | 54 => ⟨S8208x1, .f32⟩
  | 55 => ⟨S1x16, .f32⟩
  | 56 => ⟨S8208x16, .f32⟩
  | 57 => ⟨S8208x16, .f32⟩
  | 58 => ⟨S8208x16, .f32⟩
  | 59 => ⟨S8208x16, .f32⟩
  | 60 => ⟨S8208x16, .f32⟩
  | 61 => ⟨S1x8208x1x16, .f32⟩
  | 62 => ⟨S1x8208x1x16, .f32⟩
  | 63 => ⟨S4x8208x4x16, .f32⟩
  | 64 => ⟨S4x8208x4x16, .f32⟩
  | 65 => ⟨S4x8208x4x96, .f32⟩
  | 66 => ⟨S4x8208x4x16, .f32⟩
  | 67 => ⟨S4x8208x4x16, .f32⟩
  | 68 => ⟨S4x8208x4x16, .f32⟩
  | 69 => ⟨S4x8208x4x16, .f32⟩
  | 70 => ⟨S4x8208x4x16, .f32⟩
  | 71 => ⟨S4x8208x4x16, .f32⟩
  | 72 => ⟨S4x8208x4x16, .f32⟩
  | 73 => ⟨S4x8208x4x16, .f32⟩
  | 74 => ⟨S4x8208x4x16, .f32⟩
  | 75 => ⟨S4x8208x4x16, .f32⟩
  | 76 => ⟨S4x8208x4x128, .f32⟩
  | 77 => ⟨S4x8208x512, .f32⟩
  | 78 => ⟨S4x8208x4x128, .f32⟩
  | 79 => ⟨S16, .f32⟩
  | 80 => ⟨S_, .f32⟩
  | 81 => ⟨S16, .f32⟩
  | 82 => ⟨S16, .f32⟩
  | 83 => ⟨S_, .f32⟩
  | 84 => ⟨S16, .f32⟩
  | 85 => ⟨S16, .f32⟩
  | 86 => ⟨S16, .f32⟩
  | 87 => ⟨S_, .f32⟩
  | 88 => ⟨S16, .f32⟩
  | 89 => ⟨S16, .f32⟩
  | 90 => ⟨S_, .f32⟩
  | 91 => ⟨S16, .f32⟩
  | 92 => ⟨S16, .f32⟩
  | 93 => ⟨S8208, .f32⟩
  | 94 => ⟨S8208x1, .f32⟩
  | 95 => ⟨S1x16, .f32⟩
  | 96 => ⟨S8208x16, .f32⟩
  | 97 => ⟨S8208x16, .f32⟩
  | 98 => ⟨S8208x16, .f32⟩
  | 99 => ⟨S8208x16, .f32⟩
  | 100 => ⟨S8208x16, .f32⟩
  | 101 => ⟨S1x8208x1x16, .f32⟩
  | 102 => ⟨S1x8208x1x16, .f32⟩
  | 103 => ⟨S4x8208x4x16, .f32⟩
  | 104 => ⟨S4x8208x4x16, .f32⟩
  | 105 => ⟨S4x8208x4x96, .f32⟩
  | 106 => ⟨S4x8208x4x16, .f32⟩
  | 107 => ⟨S4x8208x4x16, .f32⟩
  | 108 => ⟨S4x8208x4x16, .f32⟩
  | 109 => ⟨S4x8208x4x16, .f32⟩
  | 110 => ⟨S4x8208x4x16, .f32⟩
  | 111 => ⟨S4x8208x4x16, .f32⟩
  | 112 => ⟨S4x8208x4x16, .f32⟩
  | 113 => ⟨S4x8208x4x16, .f32⟩
  | 114 => ⟨S4x8208x4x16, .f32⟩
  | 115 => ⟨S4x8208x4x16, .f32⟩
  | 116 => ⟨S4x8208x4x128, .f32⟩
  | 117 => ⟨S4x8208x512, .f32⟩
  | 118 => ⟨S4x8208x8x64, .f32⟩
  | 119 => ⟨S8, .f32⟩
  | 120 => ⟨S_, .f32⟩
  | 121 => ⟨S8, .f32⟩
  | 122 => ⟨S8, .f32⟩
  | 123 => ⟨S_, .f32⟩
  | 124 => ⟨S8, .f32⟩
  | 125 => ⟨S8, .f32⟩
  | 126 => ⟨S8, .f32⟩
  | 127 => ⟨S_, .f32⟩
  | _ => ⟨S4x8192x1024, .f32⟩

abbrev hbmTy0_1 (i : Nat) : BufTy := match i % 128 with
  | 0 => ⟨S8, .f32⟩
  | 1 => ⟨S8, .f32⟩
  | 2 => ⟨S_, .f32⟩
  | 3 => ⟨S8, .f32⟩
  | 4 => ⟨S8, .f32⟩
  | 5 => ⟨S8208, .f32⟩
  | 6 => ⟨S8208x1, .f32⟩
  | 7 => ⟨S1x8, .f32⟩
  | 8 => ⟨S8208x8, .f32⟩
  | 9 => ⟨S8208x8, .f32⟩
  | 10 => ⟨S8208x8, .f32⟩
  | 11 => ⟨S8208x8, .f32⟩
  | 12 => ⟨S8208x8, .f32⟩
  | 13 => ⟨S1x8208x1x8, .f32⟩
  | 14 => ⟨S1x8208x1x8, .f32⟩
  | 15 => ⟨S4x8208x8x8, .f32⟩
  | 16 => ⟨S4x8208x8x8, .f32⟩
  | 17 => ⟨S4x8208x8x48, .f32⟩
  | 18 => ⟨S4x8208x8x8, .f32⟩
  | 19 => ⟨S4x8208x8x8, .f32⟩
  | 20 => ⟨S4x8208x8x8, .f32⟩
  | 21 => ⟨S4x8208x8x8, .f32⟩
  | 22 => ⟨S4x8208x8x8, .f32⟩
  | 23 => ⟨S4x8208x8x8, .f32⟩
  | 24 => ⟨S4x8208x8x8, .f32⟩
  | 25 => ⟨S4x8208x8x8, .f32⟩
  | 26 => ⟨S4x8208x8x8, .f32⟩
  | 27 => ⟨S4x8208x8x8, .f32⟩
  | 28 => ⟨S4x8208x8x64, .f32⟩
  | 29 => ⟨S4x8208x512, .f32⟩
  | 30 => ⟨S4x8208x1x64, .f32⟩
  | 31 => ⟨S8, .f32⟩
  | 32 => ⟨S_, .f32⟩
  | 33 => ⟨S8, .f32⟩
  | 34 => ⟨S8, .f32⟩
  | 35 => ⟨S_, .f32⟩
  | 36 => ⟨S8, .f32⟩
  | 37 => ⟨S8, .f32⟩
  | 38 => ⟨S8, .f32⟩
  | 39 => ⟨S_, .f32⟩
  | 40 => ⟨S8, .f32⟩
  | 41 => ⟨S8, .f32⟩
  | 42 => ⟨S_, .f32⟩
  | 43 => ⟨S8, .f32⟩
  | 44 => ⟨S8, .f32⟩
  | 45 => ⟨S8208, .f32⟩
  | 46 => ⟨S8208x1, .f32⟩
  | 47 => ⟨S1x8, .f32⟩
  | 48 => ⟨S8208x8, .f32⟩
  | 49 => ⟨S8208x8, .f32⟩
  | 50 => ⟨S8208x8, .f32⟩
  | 51 => ⟨S8208x8, .f32⟩
  | 52 => ⟨S8208x8, .f32⟩
  | 53 => ⟨S1x8208x1x8, .f32⟩
  | 54 => ⟨S1x8208x1x8, .f32⟩
  | 55 => ⟨S4x8208x1x8, .f32⟩
  | 56 => ⟨S4x8208x1x8, .f32⟩
  | 57 => ⟨S4x8208x1x48, .f32⟩
  | 58 => ⟨S4x8208x1x8, .f32⟩
  | 59 => ⟨S4x8208x1x8, .f32⟩
  | 60 => ⟨S4x8208x1x8, .f32⟩
  | 61 => ⟨S4x8208x1x8, .f32⟩
  | 62 => ⟨S4x8208x1x8, .f32⟩
  | 63 => ⟨S4x8208x1x8, .f32⟩
  | 64 => ⟨S4x8208x1x8, .f32⟩
  | 65 => ⟨S4x8208x1x8, .f32⟩
  | 66 => ⟨S4x8208x1x8, .f32⟩
  | 67 => ⟨S4x8208x1x8, .f32⟩
  | 68 => ⟨S4x8208x1x64, .f32⟩
  | 69 => ⟨S4x8208x64, .f32⟩
  | 70 => ⟨S_, .f32⟩
  | 71 => ⟨S4x8208x8, .f32⟩
  | 72 => ⟨S4x8208x8, .f32⟩
  | 73 => ⟨S31x512, .f32⟩
  | 74 => ⟨S512, .f32⟩
  | 75 => ⟨S512, .f32⟩
  | 76 => ⟨S512, .f32⟩
  | 77 => ⟨S4x8208x512, .f32⟩
  | 78 => ⟨S4x8208x512, .f32⟩
  | 79 => ⟨S_, .f32⟩
  | 80 => ⟨S4x8208x512, .f32⟩
  | 81 => ⟨S4x8208x512, .f32⟩
  | 82 => ⟨S_, .f32⟩
  | 83 => ⟨S4x8208x512, .f32⟩
  | 84 => ⟨S4x8208x512, .f32⟩
  | 85 => ⟨S4x8208x512, .f32⟩
  | 86 => ⟨S_, .i32⟩
  | 87 => ⟨S_, .f32⟩
  | 88 => ⟨S4x8238x512, .f32⟩
  | 89 => ⟨S4x8208x512, .f32⟩
  | 90 => ⟨S1x512, .f32⟩
  | 91 => ⟨S512, .f32⟩
  | 92 => ⟨S1x1x512, .f32⟩
  | 93 => ⟨S4x8208x512, .f32⟩
  | 94 => ⟨S4x8208x512, .f32⟩
  | 95 => ⟨S_, .f32⟩
  | 96 => ⟨S4x8208x512, .f32⟩
  | 97 => ⟨S4x8208x512, .f32⟩
  | 98 => ⟨S4x8208x512, .f32⟩
  | 99 => ⟨S1x512, .f32⟩
  | 100 => ⟨S512, .f32⟩
  | 101 => ⟨S1x1x512, .f32⟩
  | 102 => ⟨S4x8208x512, .f32⟩
  | 103 => ⟨S4x8208x512, .f32⟩
  | 104 => ⟨S4x8208x512, .f32⟩
  | 105 => ⟨S4x8208x512, .f32⟩
  | 106 => ⟨S1x512, .f32⟩
  | 107 => ⟨S512, .f32⟩
  | 108 => ⟨S1x1x512, .f32⟩
  | 109 => ⟨S4x8208x512, .f32⟩
  | 110 => ⟨S4x8208x512, .f32⟩
  | 111 => ⟨S4x8208x512, .f32⟩
  | 112 => ⟨S4x8208x512, .f32⟩
  | 113 => ⟨S1x512, .f32⟩
  | 114 => ⟨S512, .f32⟩
  | 115 => ⟨S1x1x512, .f32⟩
  | 116 => ⟨S4x8208x512, .f32⟩
  | 117 => ⟨S4x8208x512, .f32⟩
  | 118 => ⟨S4x8208x512, .f32⟩
  | 119 => ⟨S4x8208x512, .f32⟩
  | 120 => ⟨S1x512, .f32⟩
  | 121 => ⟨S512, .f32⟩
  | 122 => ⟨S1x1x512, .f32⟩
  | 123 => ⟨S4x8208x512, .f32⟩
  | 124 => ⟨S4x8208x512, .f32⟩
  | 125 => ⟨S4x8208x512, .f32⟩
  | 126 => ⟨S4x8208x512, .f32⟩
  | 127 => ⟨S1x512, .f32⟩
  | _ => ⟨S4x8192x1024, .f32⟩

abbrev hbmTy0_2 (i : Nat) : BufTy := match i % 128 with
  | 0 => ⟨S512, .f32⟩
  | 1 => ⟨S1x1x512, .f32⟩
  | 2 => ⟨S4x8208x512, .f32⟩
  | 3 => ⟨S4x8208x512, .f32⟩
  | 4 => ⟨S4x8208x512, .f32⟩
  | 5 => ⟨S4x8208x512, .f32⟩
  | 6 => ⟨S1x512, .f32⟩
  | 7 => ⟨S512, .f32⟩
  | 8 => ⟨S1x1x512, .f32⟩
  | 9 => ⟨S4x8208x512, .f32⟩
  | 10 => ⟨S4x8208x512, .f32⟩
  | 11 => ⟨S4x8208x512, .f32⟩
  | 12 => ⟨S4x8208x512, .f32⟩
  | 13 => ⟨S1x512, .f32⟩
  | 14 => ⟨S512, .f32⟩
  | 15 => ⟨S1x1x512, .f32⟩
  | 16 => ⟨S4x8208x512, .f32⟩
  | 17 => ⟨S4x8208x512, .f32⟩
  | 18 => ⟨S4x8208x512, .f32⟩
  | 19 => ⟨S4x8208x512, .f32⟩
  | 20 => ⟨S1x512, .f32⟩
  | 21 => ⟨S512, .f32⟩
  | 22 => ⟨S1x1x512, .f32⟩
  | 23 => ⟨S4x8208x512, .f32⟩
  | 24 => ⟨S4x8208x512, .f32⟩
  | 25 => ⟨S4x8208x512, .f32⟩
  | 26 => ⟨S4x8208x512, .f32⟩
  | 27 => ⟨S1x512, .f32⟩
  | 28 => ⟨S512, .f32⟩
  | 29 => ⟨S1x1x512, .f32⟩
  | 30 => ⟨S4x8208x512, .f32⟩
  | 31 => ⟨S4x8208x512, .f32⟩
  | 32 => ⟨S4x8208x512, .f32⟩
  | 33 => ⟨S4x8208x512, .f32⟩
  | 34 => ⟨S1x512, .f32⟩
  | 35 => ⟨S512, .f32⟩
  | 36 => ⟨S1x1x512, .f32⟩
  | 37 => ⟨S4x8208x512, .f32⟩
  | 38 => ⟨S4x8208x512, .f32⟩
  | 39 => ⟨S4x8208x512, .f32⟩
  | 40 => ⟨S4x8208x512, .f32⟩
  | 41 => ⟨S1x512, .f32⟩
  | 42 => ⟨S512, .f32⟩
  | 43 => ⟨S1x1x512, .f32⟩
  | 44 => ⟨S4x8208x512, .f32⟩
  | 45 => ⟨S4x8208x512, .f32⟩
  | 46 => ⟨S4x8208x512, .f32⟩
  | 47 => ⟨S4x8208x512, .f32⟩
  | 48 => ⟨S1x512, .f32⟩
  | 49 => ⟨S512, .f32⟩
  | 50 => ⟨S1x1x512, .f32⟩
  | 51 => ⟨S4x8208x512, .f32⟩
  | 52 => ⟨S4x8208x512, .f32⟩
  | 53 => ⟨S4x8208x512, .f32⟩
  | 54 => ⟨S4x8208x512, .f32⟩
  | 55 => ⟨S1x512, .f32⟩
  | 56 => ⟨S512, .f32⟩
  | 57 => ⟨S1x1x512, .f32⟩
  | 58 => ⟨S4x8208x512, .f32⟩
  | 59 => ⟨S4x8208x512, .f32⟩
  | 60 => ⟨S4x8208x512, .f32⟩
  | 61 => ⟨S4x8208x512, .f32⟩
  | 62 => ⟨S1x512, .f32⟩
  | 63 => ⟨S512, .f32⟩
  | 64 => ⟨S1x1x512, .f32⟩
  | 65 => ⟨S4x8208x512, .f32⟩
  | 66 => ⟨S4x8208x512, .f32⟩
  | 67 => ⟨S4x8208x512, .f32⟩
  | 68 => ⟨S4x8208x512, .f32⟩
  | 69 => ⟨S1x512, .f32⟩
  | 70 => ⟨S512, .f32⟩
  | 71 => ⟨S1x1x512, .f32⟩
  | 72 => ⟨S4x8208x512, .f32⟩
  | 73 => ⟨S4x8208x512, .f32⟩
  | 74 => ⟨S4x8208x512, .f32⟩
  | 75 => ⟨S4x8208x512, .f32⟩
  | 76 => ⟨S1x512, .f32⟩
  | 77 => ⟨S512, .f32⟩
  | 78 => ⟨S1x1x512, .f32⟩
  | 79 => ⟨S4x8208x512, .f32⟩
  | 80 => ⟨S4x8208x512, .f32⟩
  | 81 => ⟨S4x8208x512, .f32⟩
  | 82 => ⟨S4x8208x512, .f32⟩
  | 83 => ⟨S1x512, .f32⟩
  | 84 => ⟨S512, .f32⟩
  | 85 => ⟨S1x1x512, .f32⟩
  | 86 => ⟨S4x8208x512, .f32⟩
  | 87 => ⟨S4x8208x512, .f32⟩
  | 88 => ⟨S4x8208x512, .f32⟩
  | 89 => ⟨S4x8208x512, .f32⟩
  | 90 => ⟨S1x512, .f32⟩
  | 91 => ⟨S512, .f32⟩
  | 92 => ⟨S1x1x512, .f32⟩
  | 93 => ⟨S4x8208x512, .f32⟩
  | 94 => ⟨S4x8208x512, .f32⟩
  | 95 => ⟨S4x8208x512, .f32⟩
  | 96 => ⟨S4x8208x512, .f32⟩
  | 97 => ⟨S1x512, .f32⟩
  | 98 => ⟨S512, .f32⟩
  | 99 => ⟨S1x1x512, .f32⟩
  | 100 => ⟨S4x8208x512, .f32⟩
  | 101 => ⟨S4x8208x512, .f32⟩
  | 102 => ⟨S4x8208x512, .f32⟩
  | 103 => ⟨S4x8208x512, .f32⟩
  | 104 => ⟨S1x512, .f32⟩
  | 105 => ⟨S512, .f32⟩
  | 106 => ⟨S1x1x512, .f32⟩
  | 107 => ⟨S4x8208x512, .f32⟩
  | 108 => ⟨S4x8208x512, .f32⟩
  | 109 => ⟨S4x8208x512, .f32⟩
  | 110 => ⟨S4x8208x512, .f32⟩
  | 111 => ⟨S1x512, .f32⟩
  | 112 => ⟨S512, .f32⟩
  | 113 => ⟨S1x1x512, .f32⟩
  | 114 => ⟨S4x8208x512, .f32⟩
  | 115 => ⟨S4x8208x512, .f32⟩
  | 116 => ⟨S4x8208x512, .f32⟩
  | 117 => ⟨S4x8208x512, .f32⟩
  | 118 => ⟨S1x512, .f32⟩
  | 119 => ⟨S512, .f32⟩
  | 120 => ⟨S1x1x512, .f32⟩
  | 121 => ⟨S4x8208x512, .f32⟩
  | 122 => ⟨S4x8208x512, .f32⟩
  | 123 => ⟨S4x8208x512, .f32⟩
  | 124 => ⟨S4x8208x512, .f32⟩
  | 125 => ⟨S1x512, .f32⟩
  | 126 => ⟨S512, .f32⟩
  | 127 => ⟨S1x1x512, .f32⟩
  | _ => ⟨S4x8192x1024, .f32⟩

abbrev hbmTy0_3 (i : Nat) : BufTy := match i % 128 with
  | 0 => ⟨S4x8208x512, .f32⟩
  | 1 => ⟨S4x8208x512, .f32⟩
  | 2 => ⟨S4x8208x512, .f32⟩
  | 3 => ⟨S4x8208x512, .f32⟩
  | 4 => ⟨S1x512, .f32⟩
  | 5 => ⟨S512, .f32⟩
  | 6 => ⟨S1x1x512, .f32⟩
  | 7 => ⟨S4x8208x512, .f32⟩
  | 8 => ⟨S4x8208x512, .f32⟩
  | 9 => ⟨S4x8208x512, .f32⟩
  | 10 => ⟨S4x8208x512, .f32⟩
  | 11 => ⟨S1x512, .f32⟩
  | 12 => ⟨S512, .f32⟩
  | 13 => ⟨S1x1x512, .f32⟩
  | 14 => ⟨S4x8208x512, .f32⟩
  | 15 => ⟨S4x8208x512, .f32⟩
  | 16 => ⟨S4x8208x512, .f32⟩
  | 17 => ⟨S4x8208x512, .f32⟩
  | 18 => ⟨S1x512, .f32⟩
  | 19 => ⟨S512, .f32⟩
  | 20 => ⟨S1x1x512, .f32⟩
  | 21 => ⟨S4x8208x512, .f32⟩
  | 22 => ⟨S4x8208x512, .f32⟩
  | 23 => ⟨S4x8208x512, .f32⟩
  | 24 => ⟨S4x8208x512, .f32⟩
  | 25 => ⟨S1x512, .f32⟩
  | 26 => ⟨S512, .f32⟩
  | 27 => ⟨S1x1x512, .f32⟩
  | 28 => ⟨S4x8208x512, .f32⟩
  | 29 => ⟨S4x8208x512, .f32⟩
  | 30 => ⟨S4x8208x512, .f32⟩
  | 31 => ⟨S4x8208x512, .f32⟩
  | 32 => ⟨S1x512, .f32⟩
  | 33 => ⟨S512, .f32⟩
  | 34 => ⟨S1x1x512, .f32⟩
  | 35 => ⟨S4x8208x512, .f32⟩
  | 36 => ⟨S4x8208x512, .f32⟩
  | 37 => ⟨S4x8208x512, .f32⟩
  | 38 => ⟨S4x8208x512, .f32⟩
  | 39 => ⟨S1x512, .f32⟩
  | 40 => ⟨S512, .f32⟩
  | 41 => ⟨S1x1x512, .f32⟩
  | 42 => ⟨S4x8208x512, .f32⟩
  | 43 => ⟨S4x8208x512, .f32⟩
  | 44 => ⟨S4x8208x512, .f32⟩
  | 45 => ⟨S4x8208x512, .f32⟩
  | 46 => ⟨S1x512, .f32⟩
  | 47 => ⟨S512, .f32⟩
  | 48 => ⟨S1x1x512, .f32⟩
  | 49 => ⟨S4x8208x512, .f32⟩
  | 50 => ⟨S4x8208x512, .f32⟩
  | 51 => ⟨S4x8208x512, .f32⟩
  | 52 => ⟨S1x1x512, .f32⟩
  | 53 => ⟨S4x8208x512, .f32⟩
  | 54 => ⟨S4x8208x512, .f32⟩
  | 55 => ⟨S4x8208x4x128, .f32⟩
  | 56 => ⟨S_, .f32⟩
  | 57 => ⟨S4x8208x4, .f32⟩
  | 58 => ⟨S4x8208x4x1, .f32⟩
  | 59 => ⟨S_, .f32⟩
  | 60 => ⟨S4x8208x4x1, .f32⟩
  | 61 => ⟨S4x8208x4x1, .f32⟩
  | 62 => ⟨S4x8208x4x128, .f32⟩
  | 63 => ⟨S4x8208x4x128, .f32⟩
  | 64 => ⟨S4x8208x4x128, .f32⟩
  | 65 => ⟨S_, .f32⟩
  | 66 => ⟨S4x8208x4, .f32⟩
  | 67 => ⟨S4x8208x4x1, .f32⟩
  | 68 => ⟨S_, .f32⟩
  | 69 => ⟨S4x8208x4x1, .f32⟩
  | 70 => ⟨S4x8208x4x1, .f32⟩
  | 71 => ⟨S4x8208x4x128, .f32⟩
  | 72 => ⟨S4x8208x4x128, .f32⟩
  | 73 => ⟨S_, .f32⟩
  | 74 => ⟨S4x8208x4x1, .f32⟩
  | 75 => ⟨S4x8208x4x1, .f32⟩
  | 76 => ⟨S4x8208x4x1, .f32⟩
  | 77 => ⟨S4x8208x4x128, .f32⟩
  | 78 => ⟨S4x8208x4x128, .f32⟩
  | 79 => ⟨S4x8208x512, .f32⟩
  | 80 => ⟨S1x1x512, .f32⟩
  | 81 => ⟨S4x8208x512, .f32⟩
  | 82 => ⟨S4x8208x512, .f32⟩
  | 83 => ⟨S1x1x512, .f32⟩
  | 84 => ⟨S4x8208x512, .f32⟩
  | 85 => ⟨S4x8208x512, .f32⟩
  | 86 => ⟨S4x8208x512, .f32⟩
  | 87 => ⟨S4x8208x512, .f32⟩
  | 88 => ⟨S_, .f32⟩
  | 89 => ⟨S4x8208x512, .f32⟩
  | 90 => ⟨S4x8208x512, .f32⟩
  | 91 => ⟨S_, .f32⟩
  | 92 => ⟨S4x8208x512, .f32⟩
  | 93 => ⟨S4x8208x512, .f32⟩
  | 94 => ⟨S4x8208x512, .f32⟩
  | 95 => ⟨S_, .f32⟩
  | 96 => ⟨S4x8208x512, .f32⟩
  | 97 => ⟨S4x8208x512, .f32⟩
  | 98 => ⟨S_, .f32⟩
  | 99 => ⟨S4x8208x512, .f32⟩
  | 100 => ⟨S4x8208x512, .f32⟩
  | 101 => ⟨S_, .f32⟩
  | 102 => ⟨S4x8208x56, .f32⟩
  | 103 => ⟨S4x8208x128, .f32⟩
  | 104 => ⟨S_, .i32⟩
  | 105 => ⟨S_, .f32⟩
  | 106 => ⟨S4x8448x128, .f32⟩
  | 107 => ⟨S_, .i32⟩
  | 108 => ⟨S_, .f32⟩
  | 109 => ⟨S4x8448x128, .f32⟩
  | 110 => ⟨S4x8192x512, .f32⟩
  | 111 => ⟨S4x8192x512, .bf16⟩
  | 112 => ⟨S4x8192x512, .f32⟩
  | 113 => ⟨S4x8192x512, .bf16⟩
  | 114 => ⟨S4x8192x128, .f32⟩
  | 115 => ⟨S4x8192x512, .f32⟩
  | 116 => ⟨S4x8192x512, .bf16⟩
  | 117 => ⟨S_, .i32⟩
  | 118 => ⟨S_, .f32⟩
  | 119 => ⟨S4x8448x512, .f32⟩
  | 120 => ⟨S4x8448x512, .bf16⟩
  | 121 => ⟨S_, .i32⟩
  | 122 => ⟨S_, .f32⟩
  | 123 => ⟨S4x8448x512, .f32⟩
  | 124 => ⟨S4x8448x512, .bf16⟩
  | 125 => ⟨S4x8448x128, .bf16⟩
  | 126 => ⟨S4x8448x128, .bf16⟩
  | _ => ⟨S4x8192x1024, .f32⟩

abbrev hbmTy (i : Nat) : BufTy := match i / 128 with
  | 0 => hbmTy0_0 i
  | 1 => hbmTy0_1 i
  | 2 => hbmTy0_2 i
  | 3 => hbmTy0_3 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_6 : Ref sig .tc := ⟨.hbm, 80, rfl⟩
abbrev main_v65 : Ref sig .tc := ⟨.hbm, 81, rfl⟩
abbrev main_v66 : Ref sig .tc := ⟨.hbm, 82, rfl⟩
abbrev main_cst_7 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_8 : Ref sig .tc := ⟨.hbm, 87, rfl⟩
abbrev main_v70 : Ref sig .tc := ⟨.hbm, 88, rfl⟩
abbrev main_v71 : Ref sig .tc := ⟨.hbm, 89, rfl⟩
abbrev main_cst_9 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_cst_10 : Ref sig .tc := ⟨.hbm, 120, rfl⟩
abbrev main_v101 : Ref sig .tc := ⟨.hbm, 121, rfl⟩
abbrev main_v102 : Ref sig .tc := ⟨.hbm, 122, rfl⟩
abbrev main_cst_11 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_cst_12 : Ref sig .tc := ⟨.hbm, 127, rfl⟩
abbrev main_v106 : Ref sig .tc := ⟨.hbm, 128, rfl⟩
abbrev main_v107 : Ref sig .tc := ⟨.hbm, 129, rfl⟩
abbrev main_cst_13 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_cst_14 : Ref sig .tc := ⟨.hbm, 160, rfl⟩
abbrev main_v137 : Ref sig .tc := ⟨.hbm, 161, rfl⟩
abbrev main_v138 : Ref sig .tc := ⟨.hbm, 162, rfl⟩
abbrev main_cst_15 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_cst_16 : Ref sig .tc := ⟨.hbm, 167, rfl⟩
abbrev main_v142 : Ref sig .tc := ⟨.hbm, 168, rfl⟩
abbrev main_v143 : Ref sig .tc := ⟨.hbm, 169, rfl⟩
abbrev main_cst_17 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_cst_18 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_cst_19 : Ref sig .tc := ⟨.hbm, 207, rfl⟩
abbrev main_v179 : Ref sig .tc := ⟨.hbm, 208, rfl⟩
abbrev main_v180 : Ref sig .tc := ⟨.hbm, 209, rfl⟩
abbrev main_cst_20 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_c : Ref sig .tc := ⟨.hbm, 214, rfl⟩
abbrev main_call0_v0 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_cst_21 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_v229 : Ref sig .tc := ⟨.hbm, 262, rfl⟩
abbrev main_v230 : Ref sig .tc := ⟨.hbm, 263, rfl⟩
abbrev main_v231 : Ref sig .tc := ⟨.hbm, 264, rfl⟩
abbrev main_v232 : Ref sig .tc := ⟨.hbm, 265, rfl⟩
abbrev main_v233 : Ref sig .tc := ⟨.hbm, 266, rfl⟩
abbrev main_v234 : Ref sig .tc := ⟨.hbm, 267, rfl⟩
abbrev main_v235 : Ref sig .tc := ⟨.hbm, 268, rfl⟩
abbrev main_v236 : Ref sig .tc := ⟨.hbm, 269, rfl⟩
abbrev main_v237 : Ref sig .tc := ⟨.hbm, 270, rfl⟩
abbrev main_v238 : Ref sig .tc := ⟨.hbm, 271, rfl⟩
abbrev main_v239 : Ref sig .tc := ⟨.hbm, 272, rfl⟩
abbrev main_v240 : Ref sig .tc := ⟨.hbm, 273, rfl⟩
abbrev main_v241 : Ref sig .tc := ⟨.hbm, 274, rfl⟩
abbrev main_v242 : Ref sig .tc := ⟨.hbm, 275, rfl⟩
abbrev main_v243 : Ref sig .tc := ⟨.hbm, 276, rfl⟩
abbrev main_v244 : Ref sig .tc := ⟨.hbm, 277, rfl⟩
abbrev main_v245 : Ref sig .tc := ⟨.hbm, 278, rfl⟩
abbrev main_v246 : Ref sig .tc := ⟨.hbm, 279, rfl⟩
abbrev main_v247 : Ref sig .tc := ⟨.hbm, 280, rfl⟩
abbrev main_v248 : Ref sig .tc := ⟨.hbm, 281, rfl⟩
abbrev main_v249 : Ref sig .tc := ⟨.hbm, 282, rfl⟩
abbrev main_v250 : Ref sig .tc := ⟨.hbm, 283, rfl⟩
abbrev main_v251 : Ref sig .tc := ⟨.hbm, 284, rfl⟩
abbrev main_v252 : Ref sig .tc := ⟨.hbm, 285, rfl⟩
abbrev main_v253 : Ref sig .tc := ⟨.hbm, 286, rfl⟩
abbrev main_v254 : Ref sig .tc := ⟨.hbm, 287, rfl⟩
abbrev main_v255 : Ref sig .tc := ⟨.hbm, 288, rfl⟩
abbrev main_v256 : Ref sig .tc := ⟨.hbm, 289, rfl⟩
abbrev main_v257 : Ref sig .tc := ⟨.hbm, 290, rfl⟩
abbrev main_v258 : Ref sig .tc := ⟨.hbm, 291, rfl⟩
abbrev main_v259 : Ref sig .tc := ⟨.hbm, 292, rfl⟩
abbrev main_v260 : Ref sig .tc := ⟨.hbm, 293, rfl⟩
abbrev main_v261 : Ref sig .tc := ⟨.hbm, 294, rfl⟩
abbrev main_v262 : Ref sig .tc := ⟨.hbm, 295, rfl⟩
abbrev main_v263 : Ref sig .tc := ⟨.hbm, 296, rfl⟩
abbrev main_v264 : Ref sig .tc := ⟨.hbm, 297, rfl⟩
abbrev main_v265 : Ref sig .tc := ⟨.hbm, 298, rfl⟩
abbrev main_v266 : Ref sig .tc := ⟨.hbm, 299, rfl⟩
abbrev main_v267 : Ref sig .tc := ⟨.hbm, 300, rfl⟩
abbrev main_v268 : Ref sig .tc := ⟨.hbm, 301, rfl⟩
abbrev main_v269 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_v273 : Ref sig .tc := ⟨.hbm, 306, rfl⟩
abbrev main_v274 : Ref sig .tc := ⟨.hbm, 307, rfl⟩
abbrev main_v275 : Ref sig .tc := ⟨.hbm, 308, rfl⟩
abbrev main_v276 : Ref sig .tc := ⟨.hbm, 309, rfl⟩
abbrev main_v277 : Ref sig .tc := ⟨.hbm, 310, rfl⟩
abbrev main_v278 : Ref sig .tc := ⟨.hbm, 311, rfl⟩
abbrev main_v279 : Ref sig .tc := ⟨.hbm, 312, rfl⟩
abbrev main_v280 : Ref sig .tc := ⟨.hbm, 313, rfl⟩
abbrev main_v281 : Ref sig .tc := ⟨.hbm, 314, rfl⟩
abbrev main_v282 : Ref sig .tc := ⟨.hbm, 315, rfl⟩
abbrev main_v283 : Ref sig .tc := ⟨.hbm, 316, rfl⟩
abbrev main_v284 : Ref sig .tc := ⟨.hbm, 317, rfl⟩
abbrev main_v285 : Ref sig .tc := ⟨.hbm, 318, rfl⟩
abbrev main_v286 : Ref sig .tc := ⟨.hbm, 319, rfl⟩
abbrev main_v287 : Ref sig .tc := ⟨.hbm, 320, rfl⟩
abbrev main_v288 : Ref sig .tc := ⟨.hbm, 321, rfl⟩
abbrev main_v289 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_v302 : Ref sig .tc := ⟨.hbm, 335, rfl⟩
abbrev main_v303 : Ref sig .tc := ⟨.hbm, 336, rfl⟩
abbrev main_v304 : Ref sig .tc := ⟨.hbm, 337, rfl⟩
abbrev main_v305 : Ref sig .tc := ⟨.hbm, 338, rfl⟩
abbrev main_v306 : Ref sig .tc := ⟨.hbm, 339, rfl⟩
abbrev main_v307 : Ref sig .tc := ⟨.hbm, 340, rfl⟩
abbrev main_v308 : Ref sig .tc := ⟨.hbm, 341, rfl⟩
abbrev main_v309 : Ref sig .tc := ⟨.hbm, 342, rfl⟩
abbrev main_v310 : Ref sig .tc := ⟨.hbm, 343, rfl⟩
abbrev main_v311 : Ref sig .tc := ⟨.hbm, 344, rfl⟩
abbrev main_v312 : Ref sig .tc := ⟨.hbm, 345, rfl⟩
abbrev main_v313 : Ref sig .tc := ⟨.hbm, 346, rfl⟩
abbrev main_v314 : Ref sig .tc := ⟨.hbm, 347, rfl⟩
abbrev main_v315 : Ref sig .tc := ⟨.hbm, 348, rfl⟩
abbrev main_v316 : Ref sig .tc := ⟨.hbm, 349, rfl⟩
abbrev main_v317 : Ref sig .tc := ⟨.hbm, 350, rfl⟩
abbrev main_v318 : Ref sig .tc := ⟨.hbm, 351, rfl⟩
abbrev main_v319 : Ref sig .tc := ⟨.hbm, 352, rfl⟩
abbrev main_v320 : Ref sig .tc := ⟨.hbm, 353, rfl⟩
abbrev main_v321 : Ref sig .tc := ⟨.hbm, 354, rfl⟩
abbrev main_v322 : Ref sig .tc := ⟨.hbm, 355, rfl⟩
abbrev main_v323 : Ref sig .tc := ⟨.hbm, 356, rfl⟩
abbrev main_v324 : Ref sig .tc := ⟨.hbm, 357, rfl⟩
abbrev main_v325 : Ref sig .tc := ⟨.hbm, 358, rfl⟩
abbrev main_v326 : Ref sig .tc := ⟨.hbm, 359, rfl⟩
abbrev main_v327 : Ref sig .tc := ⟨.hbm, 360, rfl⟩
abbrev main_v328 : Ref sig .tc := ⟨.hbm, 361, rfl⟩
abbrev main_v329 : Ref sig .tc := ⟨.hbm, 362, rfl⟩
abbrev main_v330 : Ref sig .tc := ⟨.hbm, 363, rfl⟩
abbrev main_v331 : Ref sig .tc := ⟨.hbm, 364, rfl⟩
abbrev main_v332 : Ref sig .tc := ⟨.hbm, 365, rfl⟩
abbrev main_v333 : Ref sig .tc := ⟨.hbm, 366, rfl⟩
abbrev main_v334 : Ref sig .tc := ⟨.hbm, 367, rfl⟩
abbrev main_v335 : Ref sig .tc := ⟨.hbm, 368, rfl⟩
abbrev main_v336 : Ref sig .tc := ⟨.hbm, 369, rfl⟩
abbrev main_v337 : Ref sig .tc := ⟨.hbm, 370, rfl⟩
abbrev main_v338 : Ref sig .tc := ⟨.hbm, 371, rfl⟩
abbrev main_v339 : Ref sig .tc := ⟨.hbm, 372, rfl⟩
abbrev main_v340 : Ref sig .tc := ⟨.hbm, 373, rfl⟩
abbrev main_v341 : Ref sig .tc := ⟨.hbm, 374, rfl⟩
abbrev main_v342 : Ref sig .tc := ⟨.hbm, 375, rfl⟩
abbrev main_v343 : Ref sig .tc := ⟨.hbm, 376, rfl⟩
abbrev main_v344 : Ref sig .tc := ⟨.hbm, 377, rfl⟩
abbrev main_v345 : Ref sig .tc := ⟨.hbm, 378, rfl⟩
abbrev main_v346 : Ref sig .tc := ⟨.hbm, 379, rfl⟩
abbrev main_v347 : Ref sig .tc := ⟨.hbm, 380, rfl⟩
abbrev main_v348 : Ref sig .tc := ⟨.hbm, 381, rfl⟩
abbrev main_v349 : Ref sig .tc := ⟨.hbm, 382, rfl⟩
abbrev main_v350 : Ref sig .tc := ⟨.hbm, 383, rfl⟩
abbrev main_v351 : Ref sig .tc := ⟨.hbm, 384, rfl⟩
abbrev main_v352 : Ref sig .tc := ⟨.hbm, 385, rfl⟩
abbrev main_v353 : Ref sig .tc := ⟨.hbm, 386, rfl⟩
abbrev main_v354 : Ref sig .tc := ⟨.hbm, 387, rfl⟩
abbrev main_v355 : Ref sig .tc := ⟨.hbm, 388, rfl⟩
abbrev main_v356 : Ref sig .tc := ⟨.hbm, 389, rfl⟩
abbrev main_v357 : Ref sig .tc := ⟨.hbm, 390, rfl⟩
abbrev main_v358 : Ref sig .tc := ⟨.hbm, 391, rfl⟩
abbrev main_v359 : Ref sig .tc := ⟨.hbm, 392, rfl⟩
abbrev main_v360 : Ref sig .tc := ⟨.hbm, 393, rfl⟩
abbrev main_v361 : Ref sig .tc := ⟨.hbm, 394, rfl⟩
abbrev main_v362 : Ref sig .tc := ⟨.hbm, 395, rfl⟩
abbrev main_v363 : Ref sig .tc := ⟨.hbm, 396, rfl⟩
abbrev main_v364 : Ref sig .tc := ⟨.hbm, 397, rfl⟩
abbrev main_v365 : Ref sig .tc := ⟨.hbm, 398, rfl⟩
abbrev main_v366 : Ref sig .tc := ⟨.hbm, 399, rfl⟩
abbrev main_v367 : Ref sig .tc := ⟨.hbm, 400, rfl⟩
abbrev main_v368 : Ref sig .tc := ⟨.hbm, 401, rfl⟩
abbrev main_v369 : Ref sig .tc := ⟨.hbm, 402, rfl⟩
abbrev main_v370 : Ref sig .tc := ⟨.hbm, 403, rfl⟩
abbrev main_v371 : Ref sig .tc := ⟨.hbm, 404, rfl⟩
abbrev main_v372 : Ref sig .tc := ⟨.hbm, 405, rfl⟩
abbrev main_v373 : Ref sig .tc := ⟨.hbm, 406, rfl⟩
abbrev main_v374 : Ref sig .tc := ⟨.hbm, 407, rfl⟩
abbrev main_v375 : Ref sig .tc := ⟨.hbm, 408, rfl⟩
abbrev main_v376 : Ref sig .tc := ⟨.hbm, 409, rfl⟩
abbrev main_v377 : Ref sig .tc := ⟨.hbm, 410, rfl⟩
abbrev main_v378 : Ref sig .tc := ⟨.hbm, 411, rfl⟩
abbrev main_v379 : Ref sig .tc := ⟨.hbm, 412, rfl⟩
abbrev main_v380 : Ref sig .tc := ⟨.hbm, 413, rfl⟩
abbrev main_v381 : Ref sig .tc := ⟨.hbm, 414, rfl⟩
abbrev main_v382 : Ref sig .tc := ⟨.hbm, 415, rfl⟩
abbrev main_v383 : Ref sig .tc := ⟨.hbm, 416, rfl⟩
abbrev main_v384 : Ref sig .tc := ⟨.hbm, 417, rfl⟩
abbrev main_v385 : Ref sig .tc := ⟨.hbm, 418, rfl⟩
abbrev main_v386 : Ref sig .tc := ⟨.hbm, 419, rfl⟩
abbrev main_v387 : Ref sig .tc := ⟨.hbm, 420, rfl⟩
abbrev main_v388 : Ref sig .tc := ⟨.hbm, 421, rfl⟩
abbrev main_v389 : Ref sig .tc := ⟨.hbm, 422, rfl⟩
abbrev main_v390 : Ref sig .tc := ⟨.hbm, 423, rfl⟩
abbrev main_v391 : Ref sig .tc := ⟨.hbm, 424, rfl⟩
abbrev main_v392 : Ref sig .tc := ⟨.hbm, 425, rfl⟩
abbrev main_v393 : Ref sig .tc := ⟨.hbm, 426, rfl⟩
abbrev main_v394 : Ref sig .tc := ⟨.hbm, 427, rfl⟩
abbrev main_v395 : Ref sig .tc := ⟨.hbm, 428, rfl⟩
abbrev main_v396 : Ref sig .tc := ⟨.hbm, 429, rfl⟩
abbrev main_v397 : Ref sig .tc := ⟨.hbm, 430, rfl⟩
abbrev main_v398 : Ref sig .tc := ⟨.hbm, 431, rfl⟩
abbrev main_v399 : Ref sig .tc := ⟨.hbm, 432, rfl⟩
abbrev main_v400 : Ref sig .tc := ⟨.hbm, 433, rfl⟩
abbrev main_v401 : Ref sig .tc := ⟨.hbm, 434, rfl⟩
abbrev main_v402 : Ref sig .tc := ⟨.hbm, 435, rfl⟩
abbrev main_v403 : Ref sig .tc := ⟨.hbm, 436, rfl⟩
abbrev main_v404 : Ref sig .tc := ⟨.hbm, 437, rfl⟩
abbrev main_v405 : Ref sig .tc := ⟨.hbm, 438, rfl⟩
abbrev main_v406 : Ref sig .tc := ⟨.hbm, 439, rfl⟩
abbrev main_cst_22 : Ref sig .tc := ⟨.hbm, 440, rfl⟩
abbrev main_v407 : Ref sig .tc := ⟨.hbm, 441, rfl⟩
abbrev main_v408 : Ref sig .tc := ⟨.hbm, 442, rfl⟩
abbrev main_cst_23 : Ref sig .tc := ⟨.hbm, 443, rfl⟩
abbrev main_v409 : Ref sig .tc := ⟨.hbm, 444, rfl⟩
abbrev main_v410 : Ref sig .tc := ⟨.hbm, 445, rfl⟩
abbrev main_v411 : Ref sig .tc := ⟨.hbm, 446, rfl⟩
abbrev main_v412 : Ref sig .tc := ⟨.hbm, 447, rfl⟩
abbrev main_v413 : Ref sig .tc := ⟨.hbm, 448, rfl⟩
abbrev main_cst_24 : Ref sig .tc := ⟨.hbm, 449, rfl⟩
abbrev main_v414 : Ref sig .tc := ⟨.hbm, 450, rfl⟩
abbrev main_v415 : Ref sig .tc := ⟨.hbm, 451, rfl⟩
abbrev main_cst_25 : Ref sig .tc := ⟨.hbm, 452, rfl⟩
abbrev main_v416 : Ref sig .tc := ⟨.hbm, 453, rfl⟩
abbrev main_v417 : Ref sig .tc := ⟨.hbm, 454, rfl⟩
abbrev main_v418 : Ref sig .tc := ⟨.hbm, 455, rfl⟩
abbrev main_v419 : Ref sig .tc := ⟨.hbm, 456, rfl⟩
abbrev main_cst_26 : Ref sig .tc := ⟨.hbm, 457, rfl⟩
abbrev main_v420 : Ref sig .tc := ⟨.hbm, 458, rfl⟩
abbrev main_v421 : Ref sig .tc := ⟨.hbm, 459, rfl⟩
abbrev main_v422 : Ref sig .tc := ⟨.hbm, 460, rfl⟩
abbrev main_v423 : Ref sig .tc := ⟨.hbm, 461, rfl⟩
abbrev main_v424 : Ref sig .tc := ⟨.hbm, 462, rfl⟩
abbrev main_v425 : Ref sig .tc := ⟨.hbm, 463, rfl⟩
abbrev main_v426 : Ref sig .tc := ⟨.hbm, 464, rfl⟩
abbrev main_v427 : Ref sig .tc := ⟨.hbm, 465, rfl⟩
abbrev main_v428 : Ref sig .tc := ⟨.hbm, 466, rfl⟩
abbrev main_v429 : Ref sig .tc := ⟨.hbm, 467, rfl⟩
abbrev main_v430 : Ref sig .tc := ⟨.hbm, 468, rfl⟩
abbrev main_v431 : Ref sig .tc := ⟨.hbm, 469, rfl⟩
abbrev main_call1_v0 : Ref sig .tc := ⟨.hbm, 470, rfl⟩
abbrev main_call1_v1 : Ref sig .tc := ⟨.hbm, 471, rfl⟩
abbrev main_call1_cst : Ref sig .tc := ⟨.hbm, 472, rfl⟩
abbrev main_call1_v2 : Ref sig .tc := ⟨.hbm, 473, rfl⟩
abbrev main_call1_v3 : Ref sig .tc := ⟨.hbm, 474, rfl⟩
abbrev main_call1_cst_0 : Ref sig .tc := ⟨.hbm, 475, rfl⟩
abbrev main_call1_v4 : Ref sig .tc := ⟨.hbm, 476, rfl⟩
abbrev main_call1_v5 : Ref sig .tc := ⟨.hbm, 477, rfl⟩
abbrev main_v432 : Ref sig .tc := ⟨.hbm, 478, rfl⟩
abbrev main_cst_27 : Ref sig .tc := ⟨.hbm, 479, rfl⟩
abbrev main_v433 : Ref sig .tc := ⟨.hbm, 480, rfl⟩
abbrev main_v434 : Ref sig .tc := ⟨.hbm, 481, rfl⟩
abbrev main_cst_28 : Ref sig .tc := ⟨.hbm, 482, rfl⟩
abbrev main_v435 : Ref sig .tc := ⟨.hbm, 483, rfl⟩
abbrev main_v436 : Ref sig .tc := ⟨.hbm, 484, rfl⟩
abbrev main_cst_29 : Ref sig .tc := ⟨.hbm, 485, rfl⟩
abbrev main_v437 : Ref sig .tc := ⟨.hbm, 486, rfl⟩
abbrev main_v438 : Ref sig .tc := ⟨.hbm, 487, rfl⟩
abbrev main_c_30 : Ref sig .tc := ⟨.hbm, 488, rfl⟩
abbrev main_call2_v0 : Ref sig .tc := ⟨.hbm, 489, rfl⟩
abbrev main_v439 : Ref sig .tc := ⟨.hbm, 490, rfl⟩
abbrev main_c_31 : Ref sig .tc := ⟨.hbm, 491, rfl⟩
abbrev main_call3_v0 : Ref sig .tc := ⟨.hbm, 492, rfl⟩
abbrev main_v440 : Ref sig .tc := ⟨.hbm, 493, rfl⟩
abbrev main_v441 : Ref sig .tc := ⟨.hbm, 494, rfl⟩
abbrev main_v442 : Ref sig .tc := ⟨.hbm, 495, rfl⟩
abbrev main_v443 : Ref sig .tc := ⟨.hbm, 496, rfl⟩
abbrev main_v444 : Ref sig .tc := ⟨.hbm, 497, rfl⟩
abbrev main_v445 : Ref sig .tc := ⟨.hbm, 498, rfl⟩
abbrev main_v446 : Ref sig .tc := ⟨.hbm, 499, rfl⟩
abbrev main_v447 : Ref sig .tc := ⟨.hbm, 500, rfl⟩
abbrev main_c_32 : Ref sig .tc := ⟨.hbm, 501, rfl⟩
abbrev main_call4_v0 : Ref sig .tc := ⟨.hbm, 502, rfl⟩
abbrev main_v448 : Ref sig .tc := ⟨.hbm, 503, rfl⟩
abbrev main_v449 : Ref sig .tc := ⟨.hbm, 504, rfl⟩
abbrev main_c_33 : Ref sig .tc := ⟨.hbm, 505, rfl⟩
abbrev main_call5_v0 : Ref sig .tc := ⟨.hbm, 506, rfl⟩
abbrev main_v450 : Ref sig .tc := ⟨.hbm, 507, rfl⟩
abbrev main_v451 : Ref sig .tc := ⟨.hbm, 508, rfl⟩
abbrev main_v452 : Ref sig .tc := ⟨.hbm, 509, rfl⟩
abbrev main_v453 : Ref sig .tc := ⟨.hbm, 510, rfl⟩

abbrev nD : Nat := 1
abbrev τ : Topo := Topo.v7x

variable {F : FTy → Type} [FloatOps F]
-- ==== Dsa.lean ====
abbrev S4x8192x512 : Shape := ⟨3, ![4, 8192, 512]⟩
abbrev S4x8192x128 : Shape := ⟨3, ![4, 8192, 128]⟩
abbrev S4x8448x128 : Shape := ⟨3, ![4, 8448, 128]⟩
abbrev S4x8448x512 : Shape := ⟨3, ![4, 8448, 512]⟩
abbrev S1x256x512 : Shape := ⟨3, ![1, 256, 512]⟩
abbrev S1x256x128 : Shape := ⟨3, ![1, 256, 128]⟩
abbrev S1x8448x128 : Shape := ⟨3, ![1, 8448, 128]⟩
abbrev S1x8448x512 : Shape := ⟨3, ![1, 8448, 512]⟩
abbrev S33x256x256 : Shape := ⟨3, ![33, 256, 256]⟩
abbrev S8x256x128 : Shape := ⟨3, ![8, 256, 128]⟩
abbrev S256x128 : Shape := ⟨2, ![256, 128]⟩
abbrev S4x256x1 : Shape := ⟨3, ![4, 256, 1]⟩
abbrev S4x256x128 : Shape := ⟨3, ![4, 256, 128]⟩
abbrev S256x1 : Shape := ⟨2, ![256, 1]⟩
abbrev S256x256 : Shape := ⟨2, ![256, 256]⟩
abbrev S1x256x256 : Shape := ⟨3, ![1, 256, 256]⟩
abbrev S64x1 : Shape := ⟨2, ![64, 1]⟩
abbrev S64x128 : Shape := ⟨2, ![64, 128]⟩
abbrev S64x256 : Shape := ⟨2, ![64, 256]⟩
abbrev S1x64x256 : Shape := ⟨3, ![1, 64, 256]⟩
abbrev S64 : Shape := ⟨1, ![64]⟩
abbrev S1x64x1 : Shape := ⟨3, ![1, 64, 1]⟩
abbrev S1 : Shape := ⟨1, ![1]⟩
abbrev S1x1x1 : Shape := ⟨3, ![1, 1, 1]⟩
abbrev S1x256x1 : Shape := ⟨3, ![1, 256, 1]⟩
abbrev S256 : Shape := ⟨1, ![256]⟩

abbrev nBuf : Space → Nat
  | .hbm => 8
  | .vmem => 18
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x128, .f32⟩
  | .hbm, ⟨3, _⟩ => ⟨S4x8448x128, .bf16⟩
  | .hbm, ⟨4, _⟩ => ⟨S4x8448x128, .bf16⟩
  | .hbm, ⟨5, _⟩ => ⟨S4x8448x512, .bf16⟩
  | .hbm, ⟨6, _⟩ => ⟨S4x8448x512, .bf16⟩
  | .hbm, ⟨7, _⟩ => ⟨S4x8192x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x128, .f32⟩
  | .local _ .vmem, ⟨5, _⟩ => ⟨S1x256x128, .f32⟩
  | .local _ .vmem, ⟨6, _⟩ => ⟨S1x8448x128, .bf16⟩
  | .local _ .vmem, ⟨7, _⟩ => ⟨S1x8448x128, .bf16⟩
  | .local _ .vmem, ⟨8, _⟩ => ⟨S1x8448x512, .bf16⟩
  | .local _ .vmem, ⟨9, _⟩ => ⟨S1x8448x512, .bf16⟩
  | .local _ .vmem, ⟨10, _⟩ => ⟨S1x256x512, .bf16⟩
  | .local _ .vmem, ⟨11, _⟩ => ⟨S1x256x512, .bf16⟩
  | .local _ .vmem, ⟨12, _⟩ => ⟨S33x256x256, .f32⟩
  | .local _ .vmem, ⟨13, _⟩ => ⟨S8x256x128, .f32⟩
  | .local _ .vmem, ⟨14, _⟩ => ⟨S256x128, .f32⟩
  | .local _ .vmem, ⟨15, _⟩ => ⟨S4x256x1, .f32⟩
  | .local _ .vmem, ⟨16, _⟩ => ⟨S4x256x1, .f32⟩
  | .local _ .vmem, ⟨17, _⟩ => ⟨S4x256x128, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 32], ![false, false]⟩

def k0_mult1 : BitVec 32 :=
  let c0_i32 : BitVec 32 := 0#32
  c0_i32
def k0_mult2 (i : grid0.Coords) : BitVec 32 :=
  let arg1 : BitVec 32 := BitVec.ofNat 32 (i 1).val
  let c2_i32 : BitVec 32 := 2#32
  let v0 : BitVec 32 := Scalar.addi arg1 c2_i32
  let c1_i32_85 : BitVec 32 := 1#32
  let v185 : BitVec 32 := Scalar.subi v0 c1_i32_85
  let c256_i32_86 : BitVec 32 := 256#32
  let v186 : BitVec 32 := Scalar.muli v185 c256_i32_86
  v186
def k0_off1 (i : grid0.Coords) : Fin 3 → Nat :=
  let c0_87 : Index := 0#32
  let arg1 : BitVec 32 := BitVec.ofNat 32 (i 1).val
  let c2_i32 : BitVec 32 := 2#32
  let v0 : BitVec 32 := Scalar.addi arg1 c2_i32
  let c1_i32_85 : BitVec 32 := 1#32
  let v185 : BitVec 32 := Scalar.subi v0 c1_i32_85
  let c256_i32_86 : BitVec 32 := 256#32
  let v186 : BitVec 32 := Scalar.muli v185 c256_i32_86
  let v187 : BitVec 32 := v186
  let v188 : Index := Scalar.indexCast v187
  let c0_88 : Index := 0#32
  ![0, v188.toNat, 0]
def k0_off2 (i : grid0.Coords) : Fin 3 → Nat :=
  let arg1 : BitVec 32 := BitVec.ofNat 32 (i 1).val
  let c2_i32 : BitVec 32 := 2#32
  let v0 : BitVec 32 := Scalar.addi arg1 c2_i32
  let c1_i32_154 : BitVec 32 := 1#32
  let v311 : BitVec 32 := Scalar.subi v0 c1_i32_154
  let v312 : Index := Scalar.indexCast v311
  let c0_155 : Index := 0#32
  let c0_156 : Index := 0#32
  ![v312.toNat, 0, 0]
@[reducible] def k0_t1_loop (i : grid0.Coords) : Scf.Loop 32 :=
  let c1_i32_159 : BitVec 32 := 1#32
  let arg1 : BitVec 32 := BitVec.ofNat 32 (i 1).val
  let c2_i32 : BitVec 32 := 2#32
  let v0 : BitVec 32 := Scalar.addi arg1 c2_i32
  let c1_i32_157 : BitVec 32 := 1#32
  let v316 : BitVec 32 := Scalar.subi v0 c1_i32_157
  let v317 : BitVec 32 := Scalar.subi v316 c1_i32_159
  let c1_i32_160 : BitVec 32 := 1#32
  let v319 : BitVec 32 := Scalar.divsi v317 c1_i32_160
  let v320 : BitVec 32 := Scalar.muli v319 c1_i32_160
  let v321 : BitVec 32 := Scalar.addi c1_i32_159 v320
  let c1_i32_161 : BitVec 32 := 1#32
  ⟨c1_i32_159, v321, c1_i32_161⟩
def k0_mult3 (i : grid0.Coords) (k0_t1 : Fin (k0_t1_loop i).trips) : BitVec 32 :=
  let c1_i32_159 : BitVec 32 := 1#32
  let c1_i32_161 : BitVec 32 := 1#32
  let arg16 : BitVec 32 := Scf.iv c1_i32_159 c1_i32_161 k0_t1
  let c256_i32_221 : BitVec 32 := 256#32
  let v382 : BitVec 32 := Scalar.muli arg16 c256_i32_221
  v382
def k0_off3 (i : grid0.Coords) (k0_t1 : Fin (k0_t1_loop i).trips) : Fin 3 → Nat :=
  let c0_222 : Index := 0#32
  let c1_i32_159 : BitVec 32 := 1#32
  let c1_i32_161 : BitVec 32 := 1#32
  let arg16 : BitVec 32 := Scf.iv c1_i32_159 c1_i32_161 k0_t1
  let c256_i32_221 : BitVec 32 := 256#32
  let v382 : BitVec 32 := Scalar.muli arg16 c256_i32_221
  let v383 : BitVec 32 := v382
  let v384 : Index := Scalar.indexCast v383
  let c0_223 : Index := 0#32
  ![0, v384.toNat, 0]
def k0_off4 (i : grid0.Coords) (k0_t1 : Fin (k0_t1_loop i).trips) : Fin 3 → Nat :=
  let c1_i32_159 : BitVec 32 := 1#32
  let c1_i32_161 : BitVec 32 := 1#32
  let arg16 : BitVec 32 := Scf.iv c1_i32_159 c1_i32_161 k0_t1
  let v505 : Index := Scalar.indexCast arg16
  let c0_288 : Index := 0#32
  let c0_289 : Index := 0#32
  ![v505.toNat, 0, 0]
@[reducible] def k0_t2_loop (i : grid0.Coords) : Scf.Loop 32 :=
  let c1_i32_159 : BitVec 32 := 1#32
  let arg1 : BitVec 32 := BitVec.ofNat 32 (i 1).val
  let c2_i32 : BitVec 32 := 2#32
  let v0 : BitVec 32 := Scalar.addi arg1 c2_i32
  let c1_i32_157 : BitVec 32 := 1#32
  let v316 : BitVec 32 := Scalar.subi v0 c1_i32_157
  let v317 : BitVec 32 := Scalar.subi v316 c1_i32_159
  let c1_i32_160 : BitVec 32 := 1#32
  let v319 : BitVec 32 := Scalar.divsi v317 c1_i32_160
  let v320 : BitVec 32 := Scalar.muli v319 c1_i32_160
  let v321 : BitVec 32 := Scalar.addi c1_i32_159 v320
  let v318 : BitVec 32 := Scalar.addi c1_i32_159 v317
  let c1_i32_162 : BitVec 32 := 1#32
  ⟨v321, v318, c1_i32_162⟩
def k0_mult4 (i : grid0.Coords) (k0_t2 : Fin (k0_t2_loop i).trips) : BitVec 32 :=
  let c1_i32_159 : BitVec 32 := 1#32
  let arg1 : BitVec 32 := BitVec.ofNat 32 (i 1).val
  let c2_i32 : BitVec 32 := 2#32
  let v0 : BitVec 32 := Scalar.addi arg1 c2_i32
  let c1_i32_157 : BitVec 32 := 1#32
  let v316 : BitVec 32 := Scalar.subi v0 c1_i32_157
  let v317 : BitVec 32 := Scalar.subi v316 c1_i32_159
  let c1_i32_160 : BitVec 32 := 1#32
  let v319 : BitVec 32 := Scalar.divsi v317 c1_i32_160
  let v320 : BitVec 32 := Scalar.muli v319 c1_i32_160
  let v321 : BitVec 32 := Scalar.addi c1_i32_159 v320
  let c1_i32_162 : BitVec 32 := 1#32
  let arg16 : BitVec 32 := Scf.iv v321 c1_i32_162 k0_t2
  let c256_i32_221 : BitVec 32 := 256#32
  let v382 : BitVec 32 := Scalar.muli arg16 c256_i32_221
  v382
def k0_off5 (i : grid0.Coords) (k0_t2 : Fin (k0_t2_loop i).trips) : Fin 3 → Nat :=
  let c0_222 : Index := 0#32
  let c1_i32_159 : BitVec 32 := 1#32
  let arg1 : BitVec 32 := BitVec.ofNat 32 (i 1).val
  let c2_i32 : BitVec 32 := 2#32
  let v0 : BitVec 32 := Scalar.addi arg1 c2_i32
  let c1_i32_157 : BitVec 32 := 1#32
  let v316 : BitVec 32 := Scalar.subi v0 c1_i32_157
  let v317 : BitVec 32 := Scalar.subi v316 c1_i32_159
  let c1_i32_160 : BitVec 32 := 1#32
  let v319 : BitVec 32 := Scalar.divsi v317 c1_i32_160
  let v320 : BitVec 32 := Scalar.muli v319 c1_i32_160
  let v321 : BitVec 32 := Scalar.addi c1_i32_159 v320
  let c1_i32_162 : BitVec 32 := 1#32
  let arg16 : BitVec 32 := Scf.iv v321 c1_i32_162 k0_t2
  let c256_i32_221 : BitVec 32 := 256#32
  let v382 : BitVec 32 := Scalar.muli arg16 c256_i32_221
  let v383 : BitVec 32 := v382
  let v384 : Index := Scalar.indexCast v383
  let c0_223 : Index := 0#32
  ![0, v384.toNat, 0]
def k0_off6 (i : grid0.Coords) (k0_t2 : Fin (k0_t2_loop i).trips) : Fin 3 → Nat :=
  let c1_i32_159 : BitVec 32 := 1#32
  let arg1 : BitVec 32 := BitVec.ofNat 32 (i 1).val
  let c2_i32 : BitVec 32 := 2#32
  let v0 : BitVec 32 := Scalar.addi arg1 c2_i32
  let c1_i32_157 : BitVec 32 := 1#32
  let v316 : BitVec 32 := Scalar.subi v0 c1_i32_157
  let v317 : BitVec 32 := Scalar.subi v316 c1_i32_159
  let c1_i32_160 : BitVec 32 := 1#32
  let v319 : BitVec 32 := Scalar.divsi v317 c1_i32_160
  let v320 : BitVec 32 := Scalar.muli v319 c1_i32_160
  let v321 : BitVec 32 := Scalar.addi c1_i32_159 v320
  let c1_i32_162 : BitVec 32 := 1#32
  let arg16 : BitVec 32 := Scf.iv v321 c1_i32_162 k0_t2
  let v505 : Index := Scalar.indexCast arg16
  let c0_288 : Index := 0#32
  let c0_289 : Index := 0#32
  ![v505.toNat, 0, 0]
@[reducible] def k0_t3_loop : Scf.Loop 32 :=
  let c0_i32_163 : BitVec 32 := 0#32
  let c4_i32 : BitVec 32 := 4#32
  let v322 : BitVec 32 := Scalar.addi c0_i32_163 c4_i32
  let c1_i32_164 : BitVec 32 := 1#32
  ⟨c0_i32_163, v322, c1_i32_164⟩
def k0_mult5 (k0_t3 : Fin k0_t3_loop.trips) : BitVec 32 :=
  let c0_i32_163 : BitVec 32 := 0#32
  let c1_i32_164 : BitVec 32 := 1#32
  let arg16 : BitVec 32 := Scf.iv c0_i32_163 c1_i32_164 k0_t3
  let c64_i32 : BitVec 32 := 64#32
  let v382 : BitVec 32 := Scalar.muli arg16 c64_i32
  v382
@[reducible] def k0_t4_loop : Scf.Loop 32 :=
  let c0_i32_223 : BitVec 32 := 0#32
  let c32_i32 : BitVec 32 := 32#32
  let v393 : BitVec 32 := Scalar.addi c0_i32_223 c32_i32
  let c1_i32_224 : BitVec 32 := 1#32
  ⟨c0_i32_223, v393, c1_i32_224⟩
@[reducible] def k0_t5_loop (i : grid0.Coords) : Scf.Loop 32 :=
  let c0_i32_240 : BitVec 32 := 0#32
  let arg1 : BitVec 32 := BitVec.ofNat 32 (i 1).val
  let c2_i32 : BitVec 32 := 2#32
  let v0 : BitVec 32 := Scalar.addi arg1 c2_i32
  let v435 : BitVec 32 := Scalar.subi v0 c0_i32_240
  let c1_i32_241 : BitVec 32 := 1#32
  let v437 : BitVec 32 := Scalar.divsi v435 c1_i32_241
  let v438 : BitVec 32 := Scalar.muli v437 c1_i32_241
  let v439 : BitVec 32 := Scalar.addi c0_i32_240 v438
  let c1_i32_242 : BitVec 32 := 1#32
  ⟨c0_i32_240, v439, c1_i32_242⟩
def k0_off7 (i : grid0.Coords) (k0_t3 : Fin k0_t3_loop.trips) (k0_t5 : Fin (k0_t5_loop i).trips) : Fin 3 → Nat :=
  let c0_i32_240 : BitVec 32 := 0#32
  let c1_i32_242 : BitVec 32 := 1#32
  let arg20 : BitVec 32 := Scf.iv c0_i32_240 c1_i32_242 k0_t5
  let v453 : Index := Scalar.indexCast arg20
  let c0_i32_163 : BitVec 32 := 0#32
  let c1_i32_164 : BitVec 32 := 1#32
  let arg16 : BitVec 32 := Scf.iv c0_i32_163 c1_i32_164 k0_t3
  let c64_i32 : BitVec 32 := 64#32
  let v382 : BitVec 32 := Scalar.muli arg16 c64_i32
  let v383 : BitVec 32 := v382
  let v454 : Index := Scalar.indexCast v383
  let c0_248 : Index := 0#32
  ![v453.toNat, v454.toNat, 0]
@[reducible] def k0_t6_loop (i : grid0.Coords) : Scf.Loop 32 :=
  let c0_i32_240 : BitVec 32 := 0#32
  let arg1 : BitVec 32 := BitVec.ofNat 32 (i 1).val
  let c2_i32 : BitVec 32 := 2#32
  let v0 : BitVec 32 := Scalar.addi arg1 c2_i32
  let v435 : BitVec 32 := Scalar.subi v0 c0_i32_240
  let c1_i32_241 : BitVec 32 := 1#32
  let v437 : BitVec 32 := Scalar.divsi v435 c1_i32_241
  let v438 : BitVec 32 := Scalar.muli v437 c1_i32_241
  let v439 : BitVec 32 := Scalar.addi c0_i32_240 v438
  let v436 : BitVec 32 := Scalar.addi c0_i32_240 v435
  let c1_i32_243 : BitVec 32 := 1#32
  ⟨v439, v436, c1_i32_243⟩
def k0_off8 (i : grid0.Coords) (k0_t3 : Fin k0_t3_loop.trips) (k0_t6 : Fin (k0_t6_loop i).trips) : Fin 3 → Nat :=
  let c0_i32_240 : BitVec 32 := 0#32
  let arg1 : BitVec 32 := BitVec.ofNat 32 (i 1).val
  let c2_i32 : BitVec 32 := 2#32
  let v0 : BitVec 32 := Scalar.addi arg1 c2_i32
  let v435 : BitVec 32 := Scalar.subi v0 c0_i32_240
  let c1_i32_241 : BitVec 32 := 1#32
  let v437 : BitVec 32 := Scalar.divsi v435 c1_i32_241
  let v438 : BitVec 32 := Scalar.muli v437 c1_i32_241
  let v439 : BitVec 32 := Scalar.addi c0_i32_240 v438
  let c1_i32_243 : BitVec 32 := 1#32
  let arg20 : BitVec 32 := Scf.iv v439 c1_i32_243 k0_t6
  let v453 : Index := Scalar.indexCast arg20
  let c0_i32_163 : BitVec 32 := 0#32
  let c1_i32_164 : BitVec 32 := 1#32
  let arg16 : BitVec 32 := Scf.iv c0_i32_163 c1_i32_164 k0_t3
  let c64_i32 : BitVec 32 := 64#32
  let v382 : BitVec 32 := Scalar.muli arg16 c64_i32
  let v383 : BitVec 32 := v382
  let v454 : Index := Scalar.indexCast v383
  let c0_248 : Index := 0#32
  ![v453.toNat, v454.toNat, 0]
def k0_off9 (k0_t3 : Fin k0_t3_loop.trips) : Fin 2 → Nat :=
  let c0_i32_163 : BitVec 32 := 0#32
  let c1_i32_164 : BitVec 32 := 1#32
  let arg16 : BitVec 32 := Scf.iv c0_i32_163 c1_i32_164 k0_t3
  let c64_i32 : BitVec 32 := 64#32
  let v382 : BitVec 32 := Scalar.muli arg16 c64_i32
  let v383 : BitVec 32 := v382
  let v404 : Index := Scalar.indexCast v383
  let c0_228 : Index := 0#32
  ![v404.toNat, 0]
@[reducible] def k0_t7_loop (i : grid0.Coords) : Scf.Loop 32 :=
  let c0_i32_240 : BitVec 32 := 0#32
  let arg1 : BitVec 32 := BitVec.ofNat 32 (i 1).val
  let c2_i32 : BitVec 32 := 2#32
  let v0 : BitVec 32 := Scalar.addi arg1 c2_i32
  let v433 : BitVec 32 := Scalar.subi v0 c0_i32_240
  let c1_i32_241 : BitVec 32 := 1#32
  let v435 : BitVec 32 := Scalar.divsi v433 c1_i32_241
  let v436 : BitVec 32 := Scalar.muli v435 c1_i32_241
  let v437 : BitVec 32 := Scalar.addi c0_i32_240 v436
  let c1_i32_242 : BitVec 32 := 1#32
  ⟨c0_i32_240, v437, c1_i32_242⟩
def k0_off10 (i : grid0.Coords) (k0_t3 : Fin k0_t3_loop.trips) (k0_t7 : Fin (k0_t7_loop i).trips) : Fin 3 → Nat :=
  let c0_i32_240 : BitVec 32 := 0#32
  let c1_i32_242 : BitVec 32 := 1#32
  let arg17 : BitVec 32 := Scf.iv c0_i32_240 c1_i32_242 k0_t7
  let v461 : Index := Scalar.indexCast arg17
  let c0_i32_163 : BitVec 32 := 0#32
  let c1_i32_164 : BitVec 32 := 1#32
  let arg16 : BitVec 32 := Scf.iv c0_i32_163 c1_i32_164 k0_t3
  let c64_i32 : BitVec 32 := 64#32
  let v382 : BitVec 32 := Scalar.muli arg16 c64_i32
  let v383 : BitVec 32 := v382
  let v462 : Index := Scalar.indexCast v383
  let c0_255 : Index := 0#32
  ![v461.toNat, v462.toNat, 0]
@[reducible] def k0_t8_loop (i : grid0.Coords) : Scf.Loop 32 :=
  let c0_i32_240 : BitVec 32 := 0#32
  let arg1 : BitVec 32 := BitVec.ofNat 32 (i 1).val
  let c2_i32 : BitVec 32 := 2#32
  let v0 : BitVec 32 := Scalar.addi arg1 c2_i32
  let v433 : BitVec 32 := Scalar.subi v0 c0_i32_240
  let c1_i32_241 : BitVec 32 := 1#32
  let v435 : BitVec 32 := Scalar.divsi v433 c1_i32_241
  let v436 : BitVec 32 := Scalar.muli v435 c1_i32_241
  let v437 : BitVec 32 := Scalar.addi c0_i32_240 v436
  let v434 : BitVec 32 := Scalar.addi c0_i32_240 v433
  let c1_i32_243 : BitVec 32 := 1#32
  ⟨v437, v434, c1_i32_243⟩
def k0_off11 (i : grid0.Coords) (k0_t3 : Fin k0_t3_loop.trips) (k0_t8 : Fin (k0_t8_loop i).trips) : Fin 3 → Nat :=
  let c0_i32_240 : BitVec 32 := 0#32
  let arg1 : BitVec 32 := BitVec.ofNat 32 (i 1).val
  let c2_i32 : BitVec 32 := 2#32
  let v0 : BitVec 32 := Scalar.addi arg1 c2_i32
  let v433 : BitVec 32 := Scalar.subi v0 c0_i32_240
  let c1_i32_241 : BitVec 32 := 1#32
  let v435 : BitVec 32 := Scalar.divsi v433 c1_i32_241
  let v436 : BitVec 32 := Scalar.muli v435 c1_i32_241
  let v437 : BitVec 32 := Scalar.addi c0_i32_240 v436
  let c1_i32_243 : BitVec 32 := 1#32
  let arg17 : BitVec 32 := Scf.iv v437 c1_i32_243 k0_t8
  let v461 : Index := Scalar.indexCast arg17
  let c0_i32_163 : BitVec 32 := 0#32
  let c1_i32_164 : BitVec 32 := 1#32
  let arg16 : BitVec 32 := Scf.iv c0_i32_163 c1_i32_164 k0_t3
  let c64_i32 : BitVec 32 := 64#32
  let v382 : BitVec 32 := Scalar.muli arg16 c64_i32
  let v383 : BitVec 32 := v382
  let v462 : Index := Scalar.indexCast v383
  let c0_255 : Index := 0#32
  ![v461.toNat, v462.toNat, 0]
@[reducible] def k0_t9_loop : Scf.Loop 32 :=
  let c0_i32_247 : BitVec 32 := 0#32
  let c14_i32 : BitVec 32 := 14#32
  let v449 : BitVec 32 := Scalar.addi c0_i32_247 c14_i32
  let c1_i32_248 : BitVec 32 := 1#32
  ⟨c0_i32_247, v449, c1_i32_248⟩
@[reducible] def k0_t10_loop (i : grid0.Coords) : Scf.Loop 32 :=
  let c0_i32_257 : BitVec 32 := 0#32
  let arg1 : BitVec 32 := BitVec.ofNat 32 (i 1).val
  let c2_i32 : BitVec 32 := 2#32
  let v0 : BitVec 32 := Scalar.addi arg1 c2_i32
  let v469 : BitVec 32 := Scalar.subi v0 c0_i32_257
  let c1_i32_258 : BitVec 32 := 1#32
  let v471 : BitVec 32 := Scalar.divsi v469 c1_i32_258
  let v472 : BitVec 32 := Scalar.muli v471 c1_i32_258
  let v473 : BitVec 32 := Scalar.addi c0_i32_257 v472
  let c1_i32_259 : BitVec 32 := 1#32
  ⟨c0_i32_257, v473, c1_i32_259⟩
def k0_off12 (i : grid0.Coords) (k0_t3 : Fin k0_t3_loop.trips) (k0_t10 : Fin (k0_t10_loop i).trips) : Fin 3 → Nat :=
  let c0_i32_257 : BitVec 32 := 0#32
  let c1_i32_259 : BitVec 32 := 1#32
  let arg19 : BitVec 32 := Scf.iv c0_i32_257 c1_i32_259 k0_t10
  let v480 : Index := Scalar.indexCast arg19
  let c0_i32_163 : BitVec 32 := 0#32
  let c1_i32_164 : BitVec 32 := 1#32
  let arg16 : BitVec 32 := Scf.iv c0_i32_163 c1_i32_164 k0_t3
  let c64_i32 : BitVec 32 := 64#32
  let v382 : BitVec 32 := Scalar.muli arg16 c64_i32
  let v383 : BitVec 32 := v382
  let v481 : Index := Scalar.indexCast v383
  let c0_262 : Index := 0#32
  ![v480.toNat, v481.toNat, 0]
@[reducible] def k0_t11_loop (i : grid0.Coords) : Scf.Loop 32 :=
  let c0_i32_257 : BitVec 32 := 0#32
  let arg1 : BitVec 32 := BitVec.ofNat 32 (i 1).val
  let c2_i32 : BitVec 32 := 2#32
  let v0 : BitVec 32 := Scalar.addi arg1 c2_i32
  let v469 : BitVec 32 := Scalar.subi v0 c0_i32_257
  let c1_i32_258 : BitVec 32 := 1#32
  let v471 : BitVec 32 := Scalar.divsi v469 c1_i32_258
  let v472 : BitVec 32 := Scalar.muli v471 c1_i32_258
  let v473 : BitVec 32 := Scalar.addi c0_i32_257 v472
  let v470 : BitVec 32 := Scalar.addi c0_i32_257 v469
  let c1_i32_260 : BitVec 32 := 1#32
  ⟨v473, v470, c1_i32_260⟩
def k0_off13 (i : grid0.Coords) (k0_t3 : Fin k0_t3_loop.trips) (k0_t11 : Fin (k0_t11_loop i).trips) : Fin 3 → Nat :=
  let c0_i32_257 : BitVec 32 := 0#32
  let arg1 : BitVec 32 := BitVec.ofNat 32 (i 1).val
  let c2_i32 : BitVec 32 := 2#32
  let v0 : BitVec 32 := Scalar.addi arg1 c2_i32
  let v469 : BitVec 32 := Scalar.subi v0 c0_i32_257
  let c1_i32_258 : BitVec 32 := 1#32
  let v471 : BitVec 32 := Scalar.divsi v469 c1_i32_258
  let v472 : BitVec 32 := Scalar.muli v471 c1_i32_258
  let v473 : BitVec 32 := Scalar.addi c0_i32_257 v472
  let c1_i32_260 : BitVec 32 := 1#32
  let arg19 : BitVec 32 := Scf.iv v473 c1_i32_260 k0_t11
  let v480 : Index := Scalar.indexCast arg19
  let c0_i32_163 : BitVec 32 := 0#32
  let c1_i32_164 : BitVec 32 := 1#32
  let arg16 : BitVec 32 := Scf.iv c0_i32_163 c1_i32_164 k0_t3
  let c64_i32 : BitVec 32 := 64#32
  let v382 : BitVec 32 := Scalar.muli arg16 c64_i32
  let v383 : BitVec 32 := v382
  let v481 : Index := Scalar.indexCast v383
  let c0_262 : Index := 0#32
  ![v480.toNat, v481.toNat, 0]
@[reducible] def k0_t12_loop (i : grid0.Coords) : Scf.Loop 32 :=
  let c0_i32_251 : BitVec 32 := 0#32
  let arg1 : BitVec 32 := BitVec.ofNat 32 (i 1).val
  let c2_i32 : BitVec 32 := 2#32
  let v0 : BitVec 32 := Scalar.addi arg1 c2_i32
  let v456 : BitVec 32 := Scalar.subi v0 c0_i32_251
  let c1_i32_252 : BitVec 32 := 1#32
  let v458 : BitVec 32 := Scalar.divsi v456 c1_i32_252
  let v459 : BitVec 32 := Scalar.muli v458 c1_i32_252
  let v460 : BitVec 32 := Scalar.addi c0_i32_251 v459
  let c1_i32_253 : BitVec 32 := 1#32
  ⟨c0_i32_251, v460, c1_i32_253⟩
def k0_off14 (i : grid0.Coords) (k0_t3 : Fin k0_t3_loop.trips) (k0_t12 : Fin (k0_t12_loop i).trips) : Fin 3 → Nat :=
  let c0_i32_251 : BitVec 32 := 0#32
  let c1_i32_253 : BitVec 32 := 1#32
  let arg17 : BitVec 32 := Scf.iv c0_i32_251 c1_i32_253 k0_t12
  let v461 : Index := Scalar.indexCast arg17
  let c0_i32_163 : BitVec 32 := 0#32
  let c1_i32_164 : BitVec 32 := 1#32
  let arg16 : BitVec 32 := Scf.iv c0_i32_163 c1_i32_164 k0_t3
  let c64_i32 : BitVec 32 := 64#32
  let v382 : BitVec 32 := Scalar.muli arg16 c64_i32
  let v383 : BitVec 32 := v382
  let v462 : Index := Scalar.indexCast v383
  let c0_255 : Index := 0#32
  ![v461.toNat, v462.toNat, 0]
@[reducible] def k0_t13_loop (i : grid0.Coords) : Scf.Loop 32 :=
  let c0_i32_251 : BitVec 32 := 0#32
  let arg1 : BitVec 32 := BitVec.ofNat 32 (i 1).val
  let c2_i32 : BitVec 32 := 2#32
  let v0 : BitVec 32 := Scalar.addi arg1 c2_i32
  let v456 : BitVec 32 := Scalar.subi v0 c0_i32_251
  let c1_i32_252 : BitVec 32 := 1#32
  let v458 : BitVec 32 := Scalar.divsi v456 c1_i32_252
  let v459 : BitVec 32 := Scalar.muli v458 c1_i32_252
  let v460 : BitVec 32 := Scalar.addi c0_i32_251 v459
  let v457 : BitVec 32 := Scalar.addi c0_i32_251 v456
  let c1_i32_254 : BitVec 32 := 1#32
  ⟨v460, v457, c1_i32_254⟩
def k0_off15 (i : grid0.Coords) (k0_t3 : Fin k0_t3_loop.trips) (k0_t13 : Fin (k0_t13_loop i).trips) : Fin 3 → Nat :=
  let c0_i32_251 : BitVec 32 := 0#32
  let arg1 : BitVec 32 := BitVec.ofNat 32 (i 1).val
  let c2_i32 : BitVec 32 := 2#32
  let v0 : BitVec 32 := Scalar.addi arg1 c2_i32
  let v456 : BitVec 32 := Scalar.subi v0 c0_i32_251
  let c1_i32_252 : BitVec 32 := 1#32
  let v458 : BitVec 32 := Scalar.divsi v456 c1_i32_252
  let v459 : BitVec 32 := Scalar.muli v458 c1_i32_252
  let v460 : BitVec 32 := Scalar.addi c0_i32_251 v459
  let c1_i32_254 : BitVec 32 := 1#32
  let arg17 : BitVec 32 := Scf.iv v460 c1_i32_254 k0_t13
  let v461 : Index := Scalar.indexCast arg17
  let c0_i32_163 : BitVec 32 := 0#32
  let c1_i32_164 : BitVec 32 := 1#32
  let arg16 : BitVec 32 := Scf.iv c0_i32_163 c1_i32_164 k0_t3
  let c64_i32 : BitVec 32 := 64#32
  let v382 : BitVec 32 := Scalar.muli arg16 c64_i32
  let v383 : BitVec 32 := v382
  let v462 : Index := Scalar.indexCast v383
  let c0_255 : Index := 0#32
  ![v461.toNat, v462.toNat, 0]
@[reducible] def k0_t14_loop (i : grid0.Coords) : Scf.Loop 32 :=
  let c0_i32_181 : BitVec 32 := 0#32
  let arg1 : BitVec 32 := BitVec.ofNat 32 (i 1).val
  let c2_i32 : BitVec 32 := 2#32
  let v0 : BitVec 32 := Scalar.addi arg1 c2_i32
  let v337 : BitVec 32 := Scalar.subi v0 c0_i32_181
  let c1_i32_182 : BitVec 32 := 1#32
  let v339 : BitVec 32 := Scalar.divsi v337 c1_i32_182
  let v340 : BitVec 32 := Scalar.muli v339 c1_i32_182
  let v341 : BitVec 32 := Scalar.addi c0_i32_181 v340
  let c1_i32_183 : BitVec 32 := 1#32
  ⟨c0_i32_181, v341, c1_i32_183⟩
def k0_mult6 (i : grid0.Coords) (k0_t14 : Fin (k0_t14_loop i).trips) : BitVec 32 :=
  let c0_i32_181 : BitVec 32 := 0#32
  let c1_i32_183 : BitVec 32 := 1#32
  let arg16 : BitVec 32 := Scf.iv c0_i32_181 c1_i32_183 k0_t14
  let c256_i32_221 : BitVec 32 := 256#32
  let v382 : BitVec 32 := Scalar.muli arg16 c256_i32_221
  v382
def k0_off16 (i : grid0.Coords) (k0_t14 : Fin (k0_t14_loop i).trips) : Fin 3 → Nat :=
  let c0_i32_181 : BitVec 32 := 0#32
  let c1_i32_183 : BitVec 32 := 1#32
  let arg16 : BitVec 32 := Scf.iv c0_i32_181 c1_i32_183 k0_t14
  let v384 : Index := Scalar.indexCast arg16
  let c0_222 : Index := 0#32
  let c0_223 : Index := 0#32
  ![v384.toNat, 0, 0]
def k0_off17 (i : grid0.Coords) (k0_t14 : Fin (k0_t14_loop i).trips) : Fin 3 → Nat :=
  let c0_226 : Index := 0#32
  let c0_i32_181 : BitVec 32 := 0#32
  let c1_i32_183 : BitVec 32 := 1#32
  let arg16 : BitVec 32 := Scf.iv c0_i32_181 c1_i32_183 k0_t14
  let c256_i32_221 : BitVec 32 := 256#32
  let v382 : BitVec 32 := Scalar.muli arg16 c256_i32_221
  let v383 : BitVec 32 := v382
  let v391 : Index := Scalar.indexCast v383
  let c0_227 : Index := 0#32
  ![0, v391.toNat, 0]
def k0_off18 (i : grid0.Coords) (k0_t14 : Fin (k0_t14_loop i).trips) : Fin 3 → Nat :=
  let c0_255 : Index := 0#32
  let c0_i32_181 : BitVec 32 := 0#32
  let c1_i32_183 : BitVec 32 := 1#32
  let arg16 : BitVec 32 := Scf.iv c0_i32_181 c1_i32_183 k0_t14
  let c256_i32_221 : BitVec 32 := 256#32
  let v382 : BitVec 32 := Scalar.muli arg16 c256_i32_221
  let v383 : BitVec 32 := v382
  let v433 : Index := Scalar.indexCast v383
  let c128_256 : Index := 128#32
  ![0, v433.toNat, 128]
def k0_off19 (i : grid0.Coords) (k0_t14 : Fin (k0_t14_loop i).trips) : Fin 3 → Nat :=
  let c0_284 : Index := 0#32
  let c0_i32_181 : BitVec 32 := 0#32
  let c1_i32_183 : BitVec 32 := 1#32
  let arg16 : BitVec 32 := Scf.iv c0_i32_181 c1_i32_183 k0_t14
  let c256_i32_221 : BitVec 32 := 256#32
  let v382 : BitVec 32 := Scalar.muli arg16 c256_i32_221
  let v383 : BitVec 32 := v382
  let v475 : Index := Scalar.indexCast v383
  let c256_285 : Index := 256#32
  ![0, v475.toNat, 256]
def k0_off20 (i : grid0.Coords) (k0_t14 : Fin (k0_t14_loop i).trips) : Fin 3 → Nat :=
  let c0_313 : Index := 0#32
  let c0_i32_181 : BitVec 32 := 0#32
  let c1_i32_183 : BitVec 32 := 1#32
  let arg16 : BitVec 32 := Scf.iv c0_i32_181 c1_i32_183 k0_t14
  let c256_i32_221 : BitVec 32 := 256#32
  let v382 : BitVec 32 := Scalar.muli arg16 c256_i32_221
  let v383 : BitVec 32 := v382
  let v517 : Index := Scalar.indexCast v383
  let c384_314 : Index := 384#32
  ![0, v517.toNat, 384]
@[reducible] def k0_t15_loop (i : grid0.Coords) : Scf.Loop 32 :=
  let c0_i32_181 : BitVec 32 := 0#32
  let arg1 : BitVec 32 := BitVec.ofNat 32 (i 1).val
  let c2_i32 : BitVec 32 := 2#32
  let v0 : BitVec 32 := Scalar.addi arg1 c2_i32
  let v337 : BitVec 32 := Scalar.subi v0 c0_i32_181
  let c1_i32_182 : BitVec 32 := 1#32
  let v339 : BitVec 32 := Scalar.divsi v337 c1_i32_182
  let v340 : BitVec 32 := Scalar.muli v339 c1_i32_182
  let v341 : BitVec 32 := Scalar.addi c0_i32_181 v340
  let v338 : BitVec 32 := Scalar.addi c0_i32_181 v337
  let c1_i32_184 : BitVec 32 := 1#32
  ⟨v341, v338, c1_i32_184⟩
def k0_mult7 (i : grid0.Coords) (k0_t15 : Fin (k0_t15_loop i).trips) : BitVec 32 :=
  let c0_i32_181 : BitVec 32 := 0#32
  let arg1 : BitVec 32 := BitVec.ofNat 32 (i 1).val
  let c2_i32 : BitVec 32 := 2#32
  let v0 : BitVec 32 := Scalar.addi arg1 c2_i32
  let v337 : BitVec 32 := Scalar.subi v0 c0_i32_181
  let c1_i32_182 : BitVec 32 := 1#32
  let v339 : BitVec 32 := Scalar.divsi v337 c1_i32_182
  let v340 : BitVec 32 := Scalar.muli v339 c1_i32_182
  let v341 : BitVec 32 := Scalar.addi c0_i32_181 v340
  let c1_i32_184 : BitVec 32 := 1#32
  let arg16 : BitVec 32 := Scf.iv v341 c1_i32_184 k0_t15
  let c256_i32_221 : BitVec 32 := 256#32
  let v382 : BitVec 32 := Scalar.muli arg16 c256_i32_221
  v382
def k0_off21 (i : grid0.Coords) (k0_t15 : Fin (k0_t15_loop i).trips) : Fin 3 → Nat :=
  let c0_i32_181 : BitVec 32 := 0#32
  let arg1 : BitVec 32 := BitVec.ofNat 32 (i 1).val
  let c2_i32 : BitVec 32 := 2#32
  let v0 : BitVec 32 := Scalar.addi arg1 c2_i32
  let v337 : BitVec 32 := Scalar.subi v0 c0_i32_181
  let c1_i32_182 : BitVec 32 := 1#32
  let v339 : BitVec 32 := Scalar.divsi v337 c1_i32_182
  let v340 : BitVec 32 := Scalar.muli v339 c1_i32_182
  let v341 : BitVec 32 := Scalar.addi c0_i32_181 v340
  let c1_i32_184 : BitVec 32 := 1#32
  let arg16 : BitVec 32 := Scf.iv v341 c1_i32_184 k0_t15
  let v384 : Index := Scalar.indexCast arg16
  let c0_222 : Index := 0#32
  let c0_223 : Index := 0#32
  ![v384.toNat, 0, 0]
def k0_off22 (i : grid0.Coords) (k0_t15 : Fin (k0_t15_loop i).trips) : Fin 3 → Nat :=
  let c0_226 : Index := 0#32
  let c0_i32_181 : BitVec 32 := 0#32
  let arg1 : BitVec 32 := BitVec.ofNat 32 (i 1).val
  let c2_i32 : BitVec 32 := 2#32
  let v0 : BitVec 32 := Scalar.addi arg1 c2_i32
  let v337 : BitVec 32 := Scalar.subi v0 c0_i32_181
  let c1_i32_182 : BitVec 32 := 1#32
  let v339 : BitVec 32 := Scalar.divsi v337 c1_i32_182
  let v340 : BitVec 32 := Scalar.muli v339 c1_i32_182
  let v341 : BitVec 32 := Scalar.addi c0_i32_181 v340
  let c1_i32_184 : BitVec 32 := 1#32
  let arg16 : BitVec 32 := Scf.iv v341 c1_i32_184 k0_t15
  let c256_i32_221 : BitVec 32 := 256#32
  let v382 : BitVec 32 := Scalar.muli arg16 c256_i32_221
  let v383 : BitVec 32 := v382
  let v391 : Index := Scalar.indexCast v383
  let c0_227 : Index := 0#32
  ![0, v391.toNat, 0]
def k0_off23 (i : grid0.Coords) (k0_t15 : Fin (k0_t15_loop i).trips) : Fin 3 → Nat :=
  let c0_255 : Index := 0#32
  let c0_i32_181 : BitVec 32 := 0#32
  let arg1 : BitVec 32 := BitVec.ofNat 32 (i 1).val
  let c2_i32 : BitVec 32 := 2#32
  let v0 : BitVec 32 := Scalar.addi arg1 c2_i32
  let v337 : BitVec 32 := Scalar.subi v0 c0_i32_181
  let c1_i32_182 : BitVec 32 := 1#32
  let v339 : BitVec 32 := Scalar.divsi v337 c1_i32_182
  let v340 : BitVec 32 := Scalar.muli v339 c1_i32_182
  let v341 : BitVec 32 := Scalar.addi c0_i32_181 v340
  let c1_i32_184 : BitVec 32 := 1#32
  let arg16 : BitVec 32 := Scf.iv v341 c1_i32_184 k0_t15
  let c256_i32_221 : BitVec 32 := 256#32
  let v382 : BitVec 32 := Scalar.muli arg16 c256_i32_221
  let v383 : BitVec 32 := v382
  let v433 : Index := Scalar.indexCast v383
  let c128_256 : Index := 128#32
  ![0, v433.toNat, 128]
def k0_off24 (i : grid0.Coords) (k0_t15 : Fin (k0_t15_loop i).trips) : Fin 3 → Nat :=
  let c0_284 : Index := 0#32
  let c0_i32_181 : BitVec 32 := 0#32
  let arg1 : BitVec 32 := BitVec.ofNat 32 (i 1).val
  let c2_i32 : BitVec 32 := 2#32
  let v0 : BitVec 32 := Scalar.addi arg1 c2_i32
  let v337 : BitVec 32 := Scalar.subi v0 c0_i32_181
  let c1_i32_182 : BitVec 32 := 1#32
  let v339 : BitVec 32 := Scalar.divsi v337 c1_i32_182
  let v340 : BitVec 32 := Scalar.muli v339 c1_i32_182
  let v341 : BitVec 32 := Scalar.addi c0_i32_181 v340
  let c1_i32_184 : BitVec 32 := 1#32
  let arg16 : BitVec 32 := Scf.iv v341 c1_i32_184 k0_t15
  let c256_i32_221 : BitVec 32 := 256#32
  let v382 : BitVec 32 := Scalar.muli arg16 c256_i32_221
  let v383 : BitVec 32 := v382
  let v475 : Index := Scalar.indexCast v383
  let c256_285 : Index := 256#32
  ![0, v475.toNat, 256]
def k0_off25 (i : grid0.Coords) (k0_t15 : Fin (k0_t15_loop i).trips) : Fin 3 → Nat :=
  let c0_313 : Index := 0#32
  let c0_i32_181 : BitVec 32 := 0#32
  let arg1 : BitVec 32 := BitVec.ofNat 32 (i 1).val
  let c2_i32 : BitVec 32 := 2#32
  let v0 : BitVec 32 := Scalar.addi arg1 c2_i32
  let v337 : BitVec 32 := Scalar.subi v0 c0_i32_181
  let c1_i32_182 : BitVec 32 := 1#32
  let v339 : BitVec 32 := Scalar.divsi v337 c1_i32_182
  let v340 : BitVec 32 := Scalar.muli v339 c1_i32_182
  let v341 : BitVec 32 := Scalar.addi c0_i32_181 v340
  let c1_i32_184 : BitVec 32 := 1#32
  let arg16 : BitVec 32 := Scf.iv v341 c1_i32_184 k0_t15
  let c256_i32_221 : BitVec 32 := 256#32
  let v382 : BitVec 32 := Scalar.muli arg16 c256_i32_221
  let v383 : BitVec 32 := v382
  let v517 : Index := Scalar.indexCast v383
  let c384_314 : Index := 384#32
  ![0, v517.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x8448x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x8448x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x8448x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x8448x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.Mlp.Layer.lean ====
/- The mathematics of the output projection and the squared-ReLU channel mixer, over extended reals,
   one token (row) at a time; no program is mentioned here. -/
module

public import Idealize.ShloMosaic.Lib.Pointwise

@[expose] public section

noncomputable section

namespace Layer

open Idealize.ShloMosaic

/-- RMS norm of a row `f` of 1024 entries, scaled by `g`: `f · rsqrt(mean f² + ε) · g`, the mean and ε at the
    programs' own constants (1024 and the 32-bit word of 1e-5). -/
def rmsNorm (f g : Fin 1024 → EReal) (d : Fin 1024) : EReal :=
  f d * Ideal.rsqrt (Ideal.div (∑ x, f x * f x) (Ideal.ofBits FTy.f32 1149239296#32)
    + Ideal.ofBits FTy.f32 925353388#32) * g d

/-- The residual stream after token mixing: a row `x`, plus the attention half `a` and the convolution half `c`
    of the mixed row through the two halves of the output projection. -/
def hidden (x : Fin 1024 → EReal) (a c : Fin 512 → EReal) (wa wc : Fin 512 → Fin 1024 → EReal) (d : Fin 1024) : EReal :=
  x d + (∑ k, a k * wa k d + ∑ k, c k * wc k d)

/-- One hidden unit of the channel mixer: `relu(h · wu)²`. -/
def unit (h : Fin 1024 → EReal) (wu : Fin 1024 → Fin 4096 → EReal) (f : Fin 4096) : EReal :=
  max (∑ k, h k * wu k f) 0 * max (∑ k, h k * wu k f) 0

/-- The channel mixer `relu(h · wu)² · wd`. -/
def mixer (h : Fin 1024 → EReal) (wu : Fin 1024 → Fin 4096 → EReal) (wd : Fin 4096 → Fin 1024 → EReal) (d : Fin 1024) : EReal :=
  ∑ f, unit h wu f * wd f d

/-- The layer's last part, one row: residual, norm, channel mixer, residual, final norm. -/
def rowOut (x : Fin 1024 → EReal) (a c : Fin 512 → EReal) (wa wc : Fin 512 → Fin 1024 → EReal) (g2 : Fin 1024 → EReal)
    (wu : Fin 1024 → Fin 4096 → EReal) (wd : Fin 4096 → Fin 1024 → EReal) (gf : Fin 1024 → EReal) (d : Fin 1024) : EReal :=
  rmsNorm (fun e => hidden x a c wa wc e + mixer (rmsNorm (hidden x a c wa wc) g2) wu wd e) gf d

/-- A sum over 4096 terms is the sum of its four quarters, added from the left. -/
theorem sum_quarters (F : Fin 4096 → EReal) :
    ∑ f, F f = ∑ k : Fin 1024, F ⟨k.val, by omega⟩ + ∑ k : Fin 1024, F ⟨1024 + k.val, by omega⟩
      + ∑ k : Fin 1024, F ⟨2048 + k.val, by omega⟩ + ∑ k : Fin 1024, F ⟨3072 + k.val, by omega⟩ := by
  rw [Fin.sum_univ_two_halves 3072 1024 rfl F, Fin.sum_univ_two_halves 2048 1024 rfl (fun k : Fin 3072 => F ⟨k.val, by omega⟩),
    Fin.sum_univ_two_halves 1024 1024 rfl (fun k : Fin 2048 => F ⟨k.val, by omega⟩)]

end Layer

end
-- ==== Proof.Mlp.Kernel.lean ====
/- What the output projection and channel mixer kernel computes: `Layer.rowOut` of every row. -/
module

public import proofs.«01_k».proof.Proof.Gen.MlpIdeal.Value
public import proofs.«01_k».proof.Proof.Mlp.Layer
public import Idealize.ShloMosaic.Lib.Pipeline.ValueKit
public import Idealize.ShloMosaic.Lib.Pointwise

@[expose] public section
set_option maxRecDepth 16384

noncomputable section
open Idealize.ShloMosaic Idealize.ShloMosaic.TcCoe Idealize.SL.Sem
open Idealize.ShloMosaic.Pipeline (Dat)
namespace Cert.MlpIdeal.Value
open Cert.MlpIdeal Cert.MlpIdeal.Gen

/-- A row of the first payload: the residual stream after token mixing. -/
theorem hidden_apply (v0 : Vec Ideal S1x512x1024 .f32) (v2 : Vec Ideal S1x512x512 .bf16) (v4 : Vec Ideal S512x1024 .bf16) (v8 : Vec Ideal S1x512x512 .bf16) (v10 : Vec Ideal S512x1024 .bf16) (r : Fin 512) (d : Fin 1024) :
   k0_pay2 v0 v2 v4 v8 v10 (ix2 r d) = Layer.hidden (fun e => v0 (ix3 0 r e)) (fun k => v2 (ix3 0 r k)) (fun k => v8 (ix3 0 r k)) (fun k e => v4 (ix2 k e)) (fun k e => v10 (ix2 k e)) d := by
  pointwise [k0_pay2, Layer.hidden]
  rw [add_assoc]

/-- A row of the normed hidden state. -/
theorem normed_apply (v0 : Vec Ideal S1x512x1024 .f32) (v2 : Vec Ideal S1x512x512 .bf16) (v4 : Vec Ideal S512x1024 .bf16) (v8 : Vec Ideal S1x512x512 .bf16) (v10 : Vec Ideal S512x1024 .bf16) (v14 : Vec Ideal S1x1024 .f32) (r : Fin 512) (d : Fin 1024) :
   k0_pay3 v0 v2 v4 v8 v10 v14 (ix2 r d) = Layer.rmsNorm (fun e => k0_pay2 v0 v2 v4 v8 v10 (ix2 r e)) (fun e => v14 (ix2 0 e)) d := by
  unfold k0_pay3
  generalize k0_pay2 v0 v2 v4 v8 v10 = H
  pointwise [Layer.rmsNorm]

/-- A row of the whole payload, over the loads as variables. -/
theorem payload_apply (v0 : Vec Ideal S1x512x1024 .f32) (v2 : Vec Ideal S1x512x512 .bf16) (v4 : Vec Ideal S512x1024 .bf16) (v8 : Vec Ideal S1x512x512 .bf16) (v10 : Vec Ideal S512x1024 .bf16) (v14 : Vec Ideal S1x1024 .f32)
   (u0 u1 u2 u3 w0 w1 w2 w3 : Vec Ideal S1024x1024 .bf16) (v74 : Vec Ideal S1x1024 .f32) (wu : Fin 1024 → Fin 4096 → EReal) (wd : Fin 4096 → Fin 1024 → EReal)
   (hu0 : ∀ k f, u0 (ix2 k f) = wu k ⟨f.val, by omega⟩) (hu1 : ∀ k f, u1 (ix2 k f) = wu k ⟨1024 + f.val, by omega⟩)
   (hu2 : ∀ k f, u2 (ix2 k f) = wu k ⟨2048 + f.val, by omega⟩) (hu3 : ∀ k f, u3 (ix2 k f) = wu k ⟨3072 + f.val, by omega⟩)
   (hw0 : ∀ f d, w0 (ix2 f d) = wd ⟨f.val, by omega⟩ d) (hw1 : ∀ f d, w1 (ix2 f d) = wd ⟨1024 + f.val, by omega⟩ d)
   (hw2 : ∀ f d, w2 (ix2 f d) = wd ⟨2048 + f.val, by omega⟩ d) (hw3 : ∀ f d, w3 (ix2 f d) = wd ⟨3072 + f.val, by omega⟩ d)
   (r : Fin 512) (d : Fin 1024) :
   k0_pay1 (k0_pay2 v0 v2 v4 v8 v10) (k0_pay7 (k0_pay3 v0 v2 v4 v8 v10 v14) (k0_pay4 (F := Ideal)) (k0_pay5 v0 v2 v4 v8 v10 v14 u0) (k0_pay6 (F := Ideal)) w0 u1 w1 u2 w2)
     (k0_pay8 (k0_pay3 v0 v2 v4 v8 v10 v14) u3) w3 v74 (ix3 0 r d)
   = Layer.rowOut (fun e => v0 (ix3 0 r e)) (fun k => v2 (ix3 0 r k)) (fun k => v8 (ix3 0 r k)) (fun k e => v4 (ix2 k e)) (fun k e => v10 (ix2 k e))
      (fun e => v14 (ix2 0 e)) wu wd (fun e => v74 (ix2 0 e)) d := by
  have hH : ∀ e, k0_pay2 v0 v2 v4 v8 v10 (ix2 r e) = _ := fun e => hidden_apply v0 v2 v4 v8 v10 r e
  have hN : ∀ e, k0_pay3 v0 v2 v4 v8 v10 v14 (ix2 r e) = _ := fun e => normed_apply v0 v2 v4 v8 v10 v14 r e
  unfold k0_pay5
  simp only [hH] at hN
  generalize k0_pay2 v0 v2 v4 v8 v10 = H at hH ⊢
  generalize k0_pay3 v0 v2 v4 v8 v10 v14 = N at hN ⊢
  pointwise [k0_pay1, k0_pay7, k0_pay4, k0_pay6, k0_pay8, Layer.rowOut]
  simp only [hH, hN, hu0, hu1, hu2, hu3, hw0, hw1, hw2, hw3, Layer.rmsNorm, Layer.mixer, Layer.unit, Layer.sum_quarters]

variable (m : (ℓ : Loc nD τ sig) → Buf (Elt Ideal) ℓ)
/-- The index maps of the ten windows at each grid step. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val / 16, t.val % 16, 0] :=
  (by decide +kernel : ∀ t : Fin grid0.N, _)

/-- The result array as one function of the arguments. -/
def outArr (X : FVec Ideal S4x8192x1024 .f32) (A C : FVec Ideal S4x8192x512 .bf16) (Wo : FVec Ideal S1x1024x1024 .f32)
    (G2 : FVec Ideal S1x1024 .f32) (Wu : FVec Ideal S1x1024x4096 .f32) (Wd : FVec Ideal S1x4096x1024 .f32) (Gf : FVec Ideal S1024 .f32) : FVec Ideal S4x8192x1024 .f32 :=
  fun i => Layer.rowOut (fun e => X (ix3 (i 0) (i 1) e)) (fun k => A (ix3 (i 0) (i 1) k)) (fun k => C (ix3 (i 0) (i 1) k))
    (fun k e => Wo (ix3 0 ⟨k.val, by omega⟩ e)) (fun k e => Wo (ix3 0 ⟨512 + k.val, by omega⟩ e)) (fun e => G2 (ix2 0 e))
    (fun k f => Wu (ix3 0 k f)) (fun f e => Wd (ix3 0 f e)) (fun e => Gf (ix1 e)) (i 2)

section entry
variable (c : Dev nD)

/-- The up-projection's operand at entry: the argument, read in the narrower format. -/
theorem v5_apply (k : Fin 1024) (f : Fin 4096) : (V m c main_v5 : Vec Ideal S1024x4096 .bf16) (ix2 k f) = (m ((c : Thread nD τ).loc main_arg5) : FVec Ideal S1x1024x4096 .f32) (ix3 0 k f) := by
  entry_read; pointwise []
/-- The down-projection's operand at entry. -/
theorem v7_apply (f : Fin 4096) (d : Fin 1024) : (V m c main_v7 : Vec Ideal S4096x1024 .bf16) (ix2 f d) = (m ((c : Thread nD τ).loc main_arg6) : FVec Ideal S1x4096x1024 .f32) (ix3 0 f d) := by
  entry_read; pointwise []
/-- The final norm's gain at entry. -/
theorem v8_apply (d : Fin 1024) : (V m c main_v8 : Vec Ideal S1x1024 .f32) (ix2 0 d) = (m ((c : Thread nD τ).loc main_arg7) : FVec Ideal S1024 .f32) (ix1 d) := by
  entry_read; pointwise []
/-- The output projection's attention half at entry. -/
theorem v2_apply (k : Fin 512) (d : Fin 1024) : (V m c main_v2 : Vec Ideal S512x1024 .bf16) (ix2 k d) = (m ((c : Thread nD τ).loc main_arg3) : FVec Ideal S1x1024x1024 .f32) (ix3 0 ⟨k.val, by omega⟩ d) := by
  entry_read; pointwise []
/-- The output projection's convolution half at entry. -/
theorem v3_apply (k : Fin 512) (d : Fin 1024) : (V m c main_v3 : Vec Ideal S512x1024 .bf16) (ix2 k d) = (m ((c : Thread nD τ).loc main_arg3) : FVec Ideal S1x1024x1024 .f32) (ix3 0 ⟨512 + k.val, by omega⟩ d) := by
  entry_read; pointwise []
end entry

section reads
variable (c : Dev nD) (t : Fin cfg0.N)

/-- The weights' blocks are their whole arrays at every step. -/
theorem iblk3 : iblk m c 3 t = V m c main_v2 := by blk_ext! [iblk, idx t]
/-- The block of operand 4 is its whole array at every step. -/
theorem iblk4 : iblk m c 4 t = V m c main_v3 := by blk_ext! [iblk, idx t]
/-- The block of operand 5 is its whole array at every step. -/
theorem iblk5 : iblk m c 5 t = m ((c : Thread nD τ).loc main_arg4) := by blk_ext! [iblk, V, idx t]
/-- The block of operand 6 is its whole array at every step. -/
theorem iblk6 : iblk m c 6 t = V m c main_v5 := by blk_ext! [iblk, idx t]
/-- The block of operand 7 is its whole array at every step. -/
theorem iblk7 : iblk m c 7 t = V m c main_v7 := by blk_ext! [iblk, idx t]
/-- The block of operand 8 is its whole array at every step. -/
theorem iblk8 : iblk m c 8 t = V m c main_v8 := by blk_ext! [iblk, idx t]

/-- The up-projection's block at every step is the argument. -/
theorem up_apply (k : Fin 1024) (f : Fin 4096) : (iblk m c 6 t : Vec Ideal S1024x4096 .bf16) (ix2 k f) = (m ((c : Thread nD τ).loc main_arg5) : FVec Ideal S1x1024x4096 .f32) (ix3 0 k f) :=
  (congrFun (iblk6 m c t) _).trans (v5_apply m c k f)
/-- The down-projection's block at every step is the argument. -/
theorem down_apply (f : Fin 4096) (d : Fin 1024) : (iblk m c 7 t : Vec Ideal S4096x1024 .bf16) (ix2 f d) = (m ((c : Thread nD τ).loc main_arg6) : FVec Ideal S1x4096x1024 .f32) (ix3 0 f d) :=
  (congrFun (iblk7 m c t) _).trans (v7_apply m c f d)

end reads

/-- The four column chunks of an array of 4096 columns. -/
theorem chunk_apply {V : Vec Ideal S1024x4096 .bf16} {w : Fin 1024 → Fin 4096 → EReal} (h : ∀ k f, V (ix2 k f) = w k f) (k f : Fin 1024) :
    (View.ld V r0_4 : Vec Ideal S1024x1024 .bf16) (ix2 k f) = w k ⟨f.val, by omega⟩
    ∧ (View.ld V r0_6 : Vec Ideal S1024x1024 .bf16) (ix2 k f) = w k ⟨1024 + f.val, by omega⟩
    ∧ (View.ld V r0_8 : Vec Ideal S1024x1024 .bf16) (ix2 k f) = w k ⟨2048 + f.val, by omega⟩
    ∧ (View.ld V r0_10 : Vec Ideal S1024x1024 .bf16) (ix2 k f) = w k ⟨3072 + f.val, by omega⟩ := by
  refine ⟨?_, ?_, ?_, ?_⟩ <;> (rw [← h]; pointwise [])
/-- The four row chunks of an array of 4096 rows. -/
theorem chunk_apply' {V : Vec Ideal S4096x1024 .bf16} {w : Fin 4096 → Fin 1024 → EReal} (h : ∀ f d, V (ix2 f d) = w f d) (f d : Fin 1024) :
    (View.ld V r0_5 : Vec Ideal S1024x1024 .bf16) (ix2 f d) = w ⟨f.val, by omega⟩ d
    ∧ (View.ld V r0_7 : Vec Ideal S1024x1024 .bf16) (ix2 f d) = w ⟨1024 + f.val, by omega⟩ d
    ∧ (View.ld V r0_9 : Vec Ideal S1024x1024 .bf16) (ix2 f d) = w ⟨2048 + f.val, by omega⟩ d
    ∧ (View.ld V r0_11 : Vec Ideal S1024x1024 .bf16) (ix2 f d) = w ⟨3072 + f.val, by omega⟩ d := by
  refine ⟨?_, ?_, ?_, ?_⟩ <;> (rw [← h]; pointwise [])

/-- Loads of whole blocks read the blocks. -/
theorem whole0 (x : Vec Ideal S1x512x1024 .f32) : View.ld x r0_0 = x := View.ld_unit_lit _ x (by decide)
/-- A load of a whole block reads the block. -/
theorem whole1 (x : Vec Ideal S1x512x512 .bf16) : View.ld x r0_1 = x := View.ld_unit_lit _ x (by decide)
/-- A load of a whole block reads the block. -/
theorem whole2 (x : Vec Ideal S512x1024 .bf16) : View.ld x r0_2 = x := View.ld_unit_lit _ x (by decide)
/-- A load of a whole block reads the block. -/
theorem whole3 (x : Vec Ideal S1x1024 .f32) : View.ld x r0_3 = x := View.ld_unit_lit _ x (by decide)

/-- After the whole grid the result array is `outArr` of the arguments. -/
theorem final (c : Dev nD) : (dats m 0 c).arrAt 9 (cfgs 0).N
    = outArr (m ((c : Thread nD τ).loc main_arg0)) (m ((c : Thread nD τ).loc main_arg1)) (m ((c : Thread nD τ).loc main_arg2)) (m ((c : Thread nD τ).loc main_arg3))
     (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t _ y => ?_
  blk_simp
  rw [after0_9]; frame_out
  unfold k0_pay9
  idx_vars y
  rw [whole0, whole3, whole1 (iblk m c 1 t), whole1 (iblk m c 2 t), whole2 (iblk m c 3 t), whole2 (iblk m c 4 t)]
  obtain rfl : y0 = 0 := Subsingleton.elim _ _
  have hu := up_apply m c t
  have hd := down_apply m c t
  have hp := payload_apply (iblk m c 0 t) (iblk m c 1 t) (iblk m c 3 t) (iblk m c 2 t) (iblk m c 4 t) (iblk m c 5 t)
    (View.ld (iblk m c 6 t) r0_4) (View.ld (iblk m c 6 t) r0_6) (View.ld (iblk m c 6 t) r0_8) (View.ld (iblk m c 6 t) r0_10)
    (View.ld (iblk m c 7 t) r0_5) (View.ld (iblk m c 7 t) r0_7) (View.ld (iblk m c 7 t) r0_9) (View.ld (iblk m c 7 t) r0_11) (iblk m c 8 t)
    (fun k f => (m ((c : Thread nD τ).loc main_arg5) : FVec Ideal S1x1024x4096 .f32) (ix3 0 k f))
    (fun f e => (m ((c : Thread nD τ).loc main_arg6) : FVec Ideal S1x4096x1024 .f32) (ix3 0 f e))
    (fun k f => (chunk_apply hu k f).1)
    (fun k f => (chunk_apply hu k f).2.1)
    (fun k f => (chunk_apply hu k f).2.2.1)
    (fun k f => (chunk_apply hu k f).2.2.2)
    (fun k f => (chunk_apply' hd k f).1)
    (fun k f => (chunk_apply' hd k f).2.1)
    (fun k f => (chunk_apply' hd k f).2.2.1)
    (fun k f => (chunk_apply' hd k f).2.2.2) y1 y2
  refine hp.trans ?_
  have hN : t.val < 64 := t.isLt
  rw [show ((View.whole main_v9).slice (win0_9.rect t)).emb (ix3 0 y1 y2) = ix3 ⟨t.val / 16, by omega⟩ ⟨t.val % 16 * 512 + y1.val, by omega⟩ y2 from by blk_ext [idx t]]
  show _ = Layer.rowOut _ _ _ _ _ _ _ _ _ _
  have h0 : ∀ e, (iblk m c 0 t : Vec Ideal S1x512x1024 .f32) (ix3 0 y1 e) = (m ((c : Thread nD τ).loc main_arg0) : FVec Ideal S4x8192x1024 .f32) (ix3 ⟨t.val / 16, by omega⟩ ⟨t.val % 16 * 512 + y1.val, by omega⟩ e) := fun e => by
    blk_ext [iblk, V, idx t]
  have h1 : ∀ e, (iblk m c 1 t : Vec Ideal S1x512x512 .bf16) (ix3 0 y1 e) = (m ((c : Thread nD τ).loc main_arg1) : FVec Ideal S4x8192x512 .bf16) (ix3 ⟨t.val / 16, by omega⟩ ⟨t.val % 16 * 512 + y1.val, by omega⟩ e) := fun e => by
    blk_ext [iblk, V, idx t]
  have h2 : ∀ e, (iblk m c 2 t : Vec Ideal S1x512x512 .bf16) (ix3 0 y1 e) = (m ((c : Thread nD τ).loc main_arg2) : FVec Ideal S4x8192x512 .bf16) (ix3 ⟨t.val / 16, by omega⟩ ⟨t.val % 16 * 512 + y1.val, by omega⟩ e) := fun e => by
    blk_ext [iblk, V, idx t]
  have h3 : ∀ k d, (iblk m c 3 t : Vec Ideal S512x1024 .bf16) (ix2 k d) = _ := fun k d => (congrFun (iblk3 m c t) _).trans (v2_apply m c k d)
  have h4 : ∀ k d, (iblk m c 4 t : Vec Ideal S512x1024 .bf16) (ix2 k d) = _ := fun k d => (congrFun (iblk4 m c t) _).trans (v3_apply m c k d)
  have h5 : ∀ d, (iblk m c 5 t : Vec Ideal S1x1024 .f32) (ix2 0 d) = (m ((c : Thread nD τ).loc main_arg4) : FVec Ideal S1x1024 .f32) (ix2 0 d) := fun d => congrFun (iblk5 m c t) _
  have h8 : ∀ d, (iblk m c 8 t : Vec Ideal S1x1024 .f32) (ix2 0 d) = _ := fun d => (congrFun (iblk8 m c t) _).trans (v8_apply m c d)
  simp only [h0, h1, h2, h3, h4, h5, h8]
  rfl
-- ==== Proof.Mlp.Ref.lean ====
/- What the reference of the output projection and channel mixer computes: `Layer.rowOut` of every row. -/
module

public import proofs.«01_k».proof.Proof.Gen.MlpRefIdeal.Run
public import proofs.«01_k».proof.Proof.Mlp.Layer
public import Idealize.ShloMosaic.Lib.Pointwise

@[expose] public section
set_option maxRecDepth 16384

noncomputable section
open Idealize.ShloMosaic Idealize.ShloMosaic.TcCoe Idealize.SL.Sem

namespace Cert.MlpRefIdeal.Value
open Cert.MlpRefIdeal Cert.MlpRefIdeal.Gen

/-- The reference's first residual: the argument plus the mixed row through the output projection. -/
def refHidden (X : FVec Ideal S4x8192x1024 .f32) (A C : FVec Ideal S4x8192x512 .bf16) (Wo : FVec Ideal S1x1024x1024 .f32) : FVec Ideal S4x8192x1024 .f32 :=
  addf X (Host.dotGeneral dot_S4x8192x1024_S1024x1024_S4x8192x1024_2_0_01_1_n_n none
    (concatenate S4x8192x1024 2 [⟨S4x8192x512, (extf .f32 A bitsLt_bf16_f32 : FVec Ideal S4x8192x512 .f32)⟩, ⟨S4x8192x512, (extf .f32 C bitsLt_bf16_f32 : FVec Ideal S4x8192x512 .f32)⟩]
      concatenates_S4x8192x512_S4x8192x512_S4x8192x1024_d2)
    (shapeCast S1024x1024 Wo shapeCasts_S1x1024x1024_S1024x1024))

/-- The reference's RMS norm of an array along its last axis, scaled by a vector. -/
def refNorm (H : FVec Ideal S4x8192x1024 .f32) (G : FVec Ideal S1024 .f32) : FVec Ideal S4x8192x1024 .f32 :=
  mulf (mulf H (broadcastInDim S4x8192x1024 ![0, 1, 2] bcast_S4x8192x1_S4x8192x1024_0_1_2
      (Host.rsqrt (addf (Host.divf (broadcastInDim S4x8192x1 ![0, 1] bcast_S4x8192_S4x8192x1_0_1
            (Host.reduceAdd (mulf H H) (constant S_ .f32 0x00000000#32) reducesTo_S4x8192x1024_S4x8192_d2 h_S_))
          (broadcastInDim S4x8192x1 ![] bcast_S_S4x8192x1 (constant S_ .f32 0x44800000#32)))
        (broadcastInDim S4x8192x1 ![] bcast_S_S4x8192x1 (constant S_ .f32 0x3727C5AC#32))))))
    (broadcastInDim S4x8192x1024 ![0, 1, 2] bcast_S1x1x1024_S4x8192x1024_0_1_2
      (broadcastInDim S1x1x1024 ![2] bcast_S1024_S1x1x1024_2 G))

/-- The reference's hidden units before the square: `relu(N · Wu)`. -/
def refUp (N : FVec Ideal S4x8192x1024 .f32) (Wu : FVec Ideal S1x1024x4096 .f32) : FVec Ideal S4x8192x4096 .f32 :=
  maximumf (Host.dotGeneral dot_S4x8192x1024_S1024x4096_S4x8192x4096_2_0_01_1_n_n none N (shapeCast S1024x4096 Wu shapeCasts_S1x1024x4096_S1024x4096))
    (broadcastInDim S4x8192x4096 ![] bcast_S_S4x8192x4096 (constant S_ .f32 0x00000000#32))

/-- The reference's second residual. -/
def refSecond (H : FVec Ideal S4x8192x1024 .f32) (U : FVec Ideal S4x8192x4096 .f32) (Wd : FVec Ideal S1x4096x1024 .f32) : FVec Ideal S4x8192x1024 .f32 :=
  addf H (Host.dotGeneral dot_S4x8192x4096_S4096x1024_S4x8192x1024_2_0_01_1_n_n none (mulf U U) (shapeCast S4096x1024 Wd shapeCasts_S1x4096x1024_S4096x1024))

/-- The reference's result, stage by stage. -/
def refOut (X : FVec Ideal S4x8192x1024 .f32) (A C : FVec Ideal S4x8192x512 .bf16) (Wo : FVec Ideal S1x1024x1024 .f32)
    (G2 : FVec Ideal S1x1024 .f32) (Wu : FVec Ideal S1x1024x4096 .f32) (Wd : FVec Ideal S1x4096x1024 .f32) (Gf : FVec Ideal S1024 .f32) : FVec Ideal S4x8192x1024 .f32 :=
  refNorm (refSecond (refHidden X A C Wo) (refUp (refNorm (refHidden X A C Wo) (shapeCast S1024 G2 shapeCasts_S1x1024_S1024)) Wu) Wd) Gf

/-- The printed result is the staged one. -/
theorem res_eq (m : (ℓ : Loc nD τ sig) → Buf (Elt Ideal) ℓ) (c : Dev nD) :
    res_out0 m c = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl

/-- The first residual at an index. -/
theorem refHidden_apply (X : FVec Ideal S4x8192x1024 .f32) (A C : FVec Ideal S4x8192x512 .bf16) (Wo : FVec Ideal S1x1024x1024 .f32)
    (b : Fin 4) (t : Fin 8192) (d : Fin 1024) :
    refHidden X A C Wo (ix3 b t d) = Layer.hidden (fun e => X (ix3 b t e)) (fun k => A (ix3 b t k)) (fun k => C (ix3 b t k))
      (fun k e => Wo (ix3 0 ⟨k.val, by omega⟩ e)) (fun k e => Wo (ix3 0 ⟨512 + k.val, by omega⟩ e)) d := by
  pointwise [refHidden, Layer.hidden]

/-- The norm at an index. -/
theorem refNorm_apply (H : FVec Ideal S4x8192x1024 .f32) (G : FVec Ideal S1024 .f32) (b : Fin 4) (t : Fin 8192) (d : Fin 1024) :
    refNorm H G (ix3 b t d) = Layer.rmsNorm (fun e => H (ix3 b t e)) (fun e => G (ix1 e)) d := by
  pointwise [refNorm, Layer.rmsNorm]

/-- The second residual at an index. -/
theorem refSecond_apply (H N : FVec Ideal S4x8192x1024 .f32) (Wu : FVec Ideal S1x1024x4096 .f32) (Wd : FVec Ideal S1x4096x1024 .f32)
    (b : Fin 4) (t : Fin 8192) (d : Fin 1024) :
    refSecond H (refUp N Wu) Wd (ix3 b t d) = H (ix3 b t d) + Layer.mixer (fun e => N (ix3 b t e)) (fun k f => Wu (ix3 0 k f)) (fun f e => Wd (ix3 0 f e)) d := by
  pointwise [refSecond, refUp, Layer.mixer, Layer.unit]

/-- The reference's result at an index is `Layer.rowOut` of that row. -/
theorem refOut_apply (X : FVec Ideal S4x8192x1024 .f32) (A C : FVec Ideal S4x8192x512 .bf16) (Wo : FVec Ideal S1x1024x1024 .f32)
    (G2 : FVec Ideal S1x1024 .f32) (Wu : FVec Ideal S1x1024x4096 .f32) (Wd : FVec Ideal S1x4096x1024 .f32) (Gf : FVec Ideal S1024 .f32)
    (b : Fin 4) (t : Fin 8192) (d : Fin 1024) :
    refOut X A C Wo G2 Wu Wd Gf (ix3 b t d)
      = Layer.rowOut (fun e => X (ix3 b t e)) (fun k => A (ix3 b t k)) (fun k => C (ix3 b t k))
        (fun k e => Wo (ix3 0 ⟨k.val, by omega⟩ e)) (fun k e => Wo (ix3 0 ⟨512 + k.val, by omega⟩ e)) (fun e => G2 (ix2 0 e))
        (fun k f => Wu (ix3 0 k f)) (fun f e => Wd (ix3 0 f e)) (fun e => Gf (ix1 e)) d := by
  have hg : ∀ e, shapeCast S1024 G2 shapeCasts_S1x1024_S1024 (ix1 e) = G2 (ix2 0 e) := fun e => by pointwise []
  unfold refOut
  simp only [refNorm_apply, refSecond_apply, refHidden_apply, hg, Layer.rowOut]
-- ==== Proof.Proj.Layer.lean ====
/- The mathematics of the input projection, the rotary embedding and the conformer convolution, over extended
   reals; no program is mentioned here. -/
module

public import proofs.«01_k».proof.Proof.Mlp.Layer

@[expose] public section

noncomputable section

namespace ProjLayer

open Idealize.ShloMosaic

/-- Row `p` of the padded sequence of 8448 rows: 240 zero rows, the 16 meta rows, the 8192 rows of the input. -/
def hAt (x : Fin 8192 → Fin 1024 → EReal) (mt : Fin 16 → Fin 1024 → EReal) (p : Fin 8448) (k : Fin 1024) : EReal :=
  if p.val < 240 then 0 else if h : p.val < 256 then mt ⟨p.val - 240, by omega⟩ k else x ⟨p.val - 256, by omega⟩ k

/-- One row's projections: the RMS norm of the row through the weights. -/
def projAt (h g : Fin 1024 → EReal) (w : Fin 1024 → Fin 3144 → EReal) (f : Fin 3144) : EReal :=
  ∑ k, Layer.rmsNorm h g k * w k f

/-- The projections of a zero row are zero. -/
theorem projAt_zero (g : Fin 1024 → EReal) (w : Fin 1024 → Fin 3144 → EReal) (f : Fin 3144) : projAt (fun _ => 0) g w f = 0 := by
  simp [projAt, Layer.rmsNorm]

/-- The rotary embedding of the first `2 n` of `w` lanes: lane pairs `(l, l + n)` turned by the angle of lane `l`. -/
def rope {n w : ℕ} (hn : 2 * n ≤ w) (P : Fin w → EReal) (cos sin : Fin n → EReal) (l : Fin w) : EReal :=
  if h1 : l.val < n then P l * cos ⟨l.val, h1⟩ - P ⟨l.val + n, by omega⟩ * sin ⟨l.val, h1⟩
  else if h2 : l.val < 2 * n then P l * cos ⟨l.val - n, by omega⟩ + P ⟨l.val - n, by omega⟩ * sin ⟨l.val - n, by omega⟩
  else P l

/-- The cosine factor of every lane: the cosines twice, then ones. -/
def tabC {n : ℕ} (cos : Fin n → EReal) (l : ℕ) : EReal :=
  if h1 : l < n then cos ⟨l, h1⟩ else if h2 : l < 2 * n then cos ⟨l - n, by omega⟩ else 1
/-- The factor of the lane `n` below: zeros, the sines, zeros. -/
def tabS1 {n : ℕ} (sin : Fin n → EReal) (l : ℕ) : EReal :=
  if h1 : l < n then 0 else if h2 : l < 2 * n then sin ⟨l - n, by omega⟩ else 0
/-- The factor of the lane `n` above: the negated sines, then zeros. -/
def tabS2 {n : ℕ} (sin : Fin n → EReal) (l : ℕ) : EReal :=
  if h1 : l < n then -sin ⟨l, h1⟩ else 0

/-- The embedding as three products: the lane, the lane `n` below and the lane `n` above, each by its factor. -/
theorem rope_of_tables {n w : ℕ} (hn : 2 * n ≤ w) (P : Fin w → EReal) (cos sin : Fin n → EReal) (l : Fin w) (a b : EReal)
    (ha : ∀ h : n ≤ l.val, l.val < 2 * n → a = P ⟨l.val - n, by omega⟩) (hb : ∀ h : l.val < n, b = P ⟨l.val + n, by omega⟩) :
    P l * tabC cos l.val + a * tabS1 sin l.val + b * tabS2 sin l.val = rope hn P cos sin l := by
  unfold tabC tabS1 tabS2 rope
  by_cases h1 : l.val < n
  · simp only [dif_pos h1, hb h1, mul_zero, add_zero, mul_neg, sub_eq_add_neg]
  · by_cases h2 : l.val < 2 * n
    · simp only [dif_neg h1, dif_pos h2, ha (by omega) h2, mul_zero, add_zero]
    · simp only [dif_neg h1, dif_neg h2, mul_zero, add_zero, mul_one]

/-- The embedding of zero lanes is zero. -/
theorem rope_zero {n w : ℕ} (hn : 2 * n ≤ w) (cos sin : Fin n → EReal) (l : Fin w) : rope hn (fun _ => 0) cos sin l = 0 := by
  unfold rope; split_ifs <;> simp

/-- One group of 128 channels normalised, scaled by `g`, shifted by `b` and passed through `z · logistic z`. -/
def normSwish (y : Fin 128 → EReal) (g b : EReal) (l : Fin 128) : EReal :=
  ((y l - Ideal.div (∑ x, y x) (Ideal.ofBits FTy.f32 1124073472#32)) * Ideal.rsqrt (Ideal.div
      (∑ x, (y x - Ideal.div (∑ x, y x) (Ideal.ofBits FTy.f32 1124073472#32)) * (y x - Ideal.div (∑ x, y x) (Ideal.ofBits FTy.f32 1124073472#32)))
      (Ideal.ofBits FTy.f32 1124073472#32) + Ideal.ofBits FTy.f32 925353388#32) * g + b)
  * Ideal.logistic ((y l - Ideal.div (∑ x, y x) (Ideal.ofBits FTy.f32 1124073472#32)) * Ideal.rsqrt (Ideal.div
      (∑ x, (y x - Ideal.div (∑ x, y x) (Ideal.ofBits FTy.f32 1124073472#32)) * (y x - Ideal.div (∑ x, y x) (Ideal.ofBits FTy.f32 1124073472#32)))
      (Ideal.ofBits FTy.f32 1124073472#32) + Ideal.ofBits FTy.f32 925353388#32) * g + b)

/-- The depthwise convolution at one position: the 31 last entries of a channel by the channel's taps, plus the bias. -/
def convAt (u : Fin 31 → EReal) (w : Fin 31 → EReal) (b : EReal) : EReal := ∑ j, u j * w j + b

/-- The integer zero read as a real. -/
theorem sitofp_zero : FloatOps.sitofp (F := Ideal) FTy.f32 0#32 = (0 : EReal) := by
  show ((((0#32 : BitVec 32).toInt : ℤ) : ℝ) : EReal) = 0
  simp
/-- Counting a padded row from the first meta row: 240 less. -/
theorem sitofp_sub (p : ℕ) (h : 240 ≤ p) (h' : p < 8448) :
    (FloatOps.sitofp (F := Ideal) FTy.f32 (BitVec.ofNat 32 p) : EReal) - Ideal.ofBits FTy.f32 1131413504#32 = FloatOps.sitofp (F := Ideal) FTy.f32 (BitVec.ofNat 32 (p - 240)) := by
  have e : ∀ n, n < 8448 → (FloatOps.sitofp (F := Ideal) FTy.f32 (BitVec.ofNat 32 n) : EReal) = ((n : ℝ) : EReal) := fun n hn => by
    show ((((BitVec.ofNat 32 n).toInt : ℤ) : ℝ) : EReal) = _
    rw [BitVec.toInt_ofNat', Int.bmod_eq_of_le (by omega) (by omega)]; simp
  have c : Ideal.ofBits FTy.f32 1131413504#32 = ((240 : ℝ) : EReal) := by
    simp [Ideal.ofBits, Ideal.ieee, -EReal.coe_mul, -EReal.coe_neg]; norm_num
  rw [e p h', e (p - 240) (by omega), c, ← EReal.coe_sub, Nat.cast_sub h]; norm_num

/-- The rotary frequency of lane `l`, for `den` rotated lanes: 500000 to the power `-2 l / den`. -/
def freq (den : BitVec 32) (l : ℕ) : EReal :=
  Ideal.pow (Ideal.ofBits FTy.f32 1223959552#32) (Ideal.div (-(Ideal.ofBits FTy.f32 1073741824#32 * FloatOps.sitofp (F := Ideal) FTy.f32 (BitVec.ofNat 32 l)))
    (Ideal.ofBits FTy.f32 den))
/-- The rotary angle of position `t` and lane `l`. -/
def angle (den : BitVec 32) (t l : ℕ) : EReal := FloatOps.sitofp (F := Ideal) FTy.f32 (BitVec.ofNat 32 t) * freq den l

/-- Four attention heads of 128 lanes from column `base` on, the first 32 lanes of each rotated. -/
def headRope (base : ℕ) (hb : base + 512 ≤ 3144) (P : Fin 3144 → EReal) (t : ℕ) (f : Fin 512) : EReal :=
  rope (n := 16) (w := 128) (by omega) (fun j => P ⟨base + (f.val / 128 * 128 + j.val), by omega⟩) (fun l => Ideal.cos (angle 1107296256#32 t l))
    (fun l => Ideal.sin (angle 1107296256#32 t l)) ⟨f.val % 128, by omega⟩
/-- Eight indexer heads of 64 lanes, the first 16 lanes of each rotated. -/
def indexRope (P : Fin 3144 → EReal) (t : ℕ) (f : Fin 512) : EReal :=
  rope (n := 8) (w := 64) (by omega) (fun j => P ⟨1536 + (f.val / 64 * 64 + j.val), by omega⟩) (fun l => Ideal.cos (angle 1098907648#32 t l))
    (fun l => Ideal.sin (angle 1098907648#32 t l)) ⟨f.val % 64, by omega⟩
/-- The one indexer key of 64 lanes, its first 16 lanes rotated. -/
def keyRope (P : Fin 3144 → EReal) (t : ℕ) (l : Fin 64) : EReal :=
  rope (n := 8) (w := 64) (by omega) (fun j => P ⟨2048 + j.val, by omega⟩) (fun l => Ideal.cos (angle 1098907648#32 t l))
    (fun l => Ideal.sin (angle 1098907648#32 t l)) l
/-- The gated convolution input of one channel. -/
def gate (P : Fin 3144 → EReal) (f : Fin 512) : EReal := P ⟨2120 + f.val, by omega⟩ * Ideal.logistic (P ⟨2632 + f.val, by omega⟩)

/-- The projections of the padded rows. -/
def rows (x : Fin 8192 → Fin 1024 → EReal) (mt : Fin 16 → Fin 1024 → EReal) (g : Fin 1024 → EReal) (w : Fin 1024 → Fin 3144 → EReal)
    (p : Fin 8448) (f : Fin 3144) : EReal := projAt (hAt x mt p) g w f
/-- The projections of the leading zero rows are zero. -/
theorem rows_zero (x : Fin 8192 → Fin 1024 → EReal) (mt : Fin 16 → Fin 1024 → EReal) (g : Fin 1024 → EReal) (w : Fin 1024 → Fin 3144 → EReal)
    (p : Fin 8448) (hp : p.val < 240) : rows x mt g w p = fun _ => 0 := by
  have e : hAt x mt p = fun _ => 0 := funext fun k => by simp only [hAt, if_pos hp]
  funext f; rw [rows, e, projAt_zero]
/-- A zero row has zero attention heads. -/
theorem headRope_zero (base : ℕ) (hb : base + 512 ≤ 3144) (t : ℕ) (f : Fin 512) : headRope base hb (fun _ => 0) t f = 0 := rope_zero _ _ _ _
/-- A zero row has a zero indexer key. -/
theorem keyRope_zero (t : ℕ) (l : Fin 64) : keyRope (fun _ => 0) t l = 0 := rope_zero _ _ _ _
/-- A zero row has zero gated convolution input. -/
theorem gate_zero (f : Fin 512) : gate (fun _ => 0) f = 0 := zero_mul _

section results
variable (P : Fin 8448 → Fin 3144 → EReal)
/-- The scaled queries of output position `s`, which is row `s + 256` and position `s + 16` behind the meta rows. -/
def qOut (s : Fin 8192) (f : Fin 512) : EReal := headRope 0 (by omega) (P ⟨s.val + 256, by omega⟩) (s.val + 16) f * Ideal.ofBits FTy.f32 1035273459#32
/-- The scaled indexer queries. -/
def iqOut (s : Fin 8192) (f : Fin 512) : EReal := indexRope (P ⟨s.val + 256, by omega⟩) (s.val + 16) f * Ideal.ofBits FTy.f32 1040187392#32
/-- The indexer key, the scaled indexer weights, zeros. -/
def miscOut (s : Fin 8192) (l : Fin 128) : EReal :=
  if h : l.val < 64 then keyRope (P ⟨s.val + 256, by omega⟩) (s.val + 16) ⟨l.val, h⟩
  else if h2 : l.val < 72 then P ⟨s.val + 256, by omega⟩ ⟨2112 + (l.val - 64), by omega⟩ * Ideal.ofBits FTy.f32 1052050675#32 else 0
/-- The keys of every padded row. -/
def kOut (p : Fin 8448) (f : Fin 512) : EReal := headRope 512 (by omega) (P p) (p.val - 240) f
/-- The values of every padded row. -/
def vOut (p : Fin 8448) (f : Fin 512) : EReal := P p ⟨1024 + f.val, by omega⟩
/-- The indexer keys of every padded row in the low lanes. -/
def ikaOut (p : Fin 8448) (l : Fin 128) : EReal := if h : l.val < 64 then keyRope (P p) (p.val - 240) ⟨l.val, h⟩ else 0
/-- The indexer keys of every padded row in the high lanes. -/
def ikbOut (p : Fin 8448) (l : Fin 128) : EReal := if h : l.val < 64 then 0 else keyRope (P p) (p.val - 240) ⟨l.val - 64, by omega⟩
/-- The convolution branch: the 31 gated rows up to the position through the taps, then the group norm and swish. -/
def convOut (cw : Fin 31 → Fin 512 → EReal) (cb cg cl : Fin 512 → EReal) (s : Fin 8192) (f : Fin 512) : EReal :=
  normSwish (fun l => convAt (fun j => gate (P ⟨226 + s.val + j.val, by omega⟩) ⟨f.val / 128 * 128 + l.val, by omega⟩)
    (fun j => cw j ⟨f.val / 128 * 128 + l.val, by omega⟩) (cb ⟨f.val / 128 * 128 + l.val, by omega⟩)) (cg f) (cl f) ⟨f.val % 128, by omega⟩
end results

/-- A row of the widened product: the columns of the weights in the kernel's order, then zeros. -/
def wide (P : Fin 3144 → EReal) (f : Fin 3200) : EReal :=
  if h : f.val < 2048 then P ⟨f.val, by omega⟩ else if h2 : f.val < 3072 then P ⟨f.val + 72, by omega⟩
  else if h3 : f.val < 3144 then P ⟨f.val - 1024, by omega⟩ else 0

/-- One slab of 128 lanes from column `base` on through three lane factors, the lanes taken cyclically. -/
def slab (n : ℕ) (v : Fin 3200 → EReal) (base : ℕ) (hb : base + 128 ≤ 3200) (c s1 s2 : Fin 128 → EReal) (l : Fin 128) : EReal :=
  v ⟨base + l.val, by omega⟩ * c l + v ⟨base + (l.val + 128 - n) % 128, by omega⟩ * s1 l + v ⟨base + (l.val + 128 - (128 - n)) % 128, by omega⟩ * s2 l

/-- A slab through the factors of a width dividing it is the embedding of each of its parts. -/
theorem slab_rope {n w : ℕ} (hw : w = 64 ∨ w = 128) (hn : 2 * n ≤ w) (v : Fin 3200 → EReal) (base : ℕ) (hb : base + 128 ≤ 3200)
    (c s1 s2 : Fin 128 → EReal) (cos sin : Fin n → EReal) (l : Fin 128) (hc : c l = tabC cos (l.val % w)) (h1 : s1 l = tabS1 sin (l.val % w))
    (h2 : s2 l = tabS2 sin (l.val % w)) (Q : Fin w → EReal) (hQ : ∀ (j : Fin w) (h : base + (l.val / w * w + j.val) < 3200), Q j = v ⟨base + (l.val / w * w + j.val), h⟩) :
    slab n v base hb c s1 s2 l = rope hn Q cos sin ⟨l.val % w, Nat.mod_lt _ (by omega)⟩ := by
  have hl : l.val / w * w + l.val % w = l.val := Nat.div_add_mod' _ _
  have e : ∀ (j : Fin w) (k : Fin 3200), k.val = base + (l.val / w * w + j.val) → v k = Q j := fun j k hk => by
    rw [hQ j (hk ▸ k.isLt)]; congr 1; exact Fin.ext hk
  unfold slab
  rw [hc, h1, h2, e ⟨l.val % w, Nat.mod_lt _ (by omega)⟩ _ (by show base + l.val = base + (_ + l.val % w); omega)]
  refine rope_of_tables hn Q cos sin ⟨l.val % w, Nat.mod_lt _ (by omega)⟩ _ _ ?_ ?_
  · intro h h'
    refine e _ _ ?_
    show base + (l.val + 128 - n) % 128 = base + (l.val / w * w + (l.val % w - n))
    have h : n ≤ l.val % w := h
    rw [show l.val + 128 - n = (l.val - n) + 128 by omega, Nat.add_mod_right, Nat.mod_eq_of_lt (by omega)]; omega
  · intro h
    refine e _ _ ?_
    show base + (l.val + 128 - (128 - n)) % 128 = base + (l.val / w * w + (l.val % w + n))
    have h : l.val % w < n := h
    have hlt : l.val + n < 128 := by rcases hw with rfl | rfl <;> omega
    rw [show l.val + 128 - (128 - n) = l.val + n by omega, Nat.mod_eq_of_lt hlt]; omega

/-- A slab of zeros is zero. -/
theorem slab_zero (n : ℕ) (base : ℕ) (hb : base + 128 ≤ 3200) (c s1 s2 : Fin 128 → EReal) (l : Fin 128) : slab n (wide fun _ => 0) base hb c s1 s2 l = 0 := by
  have e : ∀ f, wide (fun _ => 0) f = 0 := fun f => by unfold wide; split_ifs <;> rfl
  simp only [slab, e, zero_mul, add_zero]

section slabs
variable (P : Fin 3144 → EReal) (p : ℕ) (hP : p < 240 → P = fun _ => 0) (c s1 s2 : Fin 128 → EReal) (l : Fin 128)
include hP

/-- A query or key head of a padded row. -/
theorem slab_head (hc : 240 ≤ p → c l = tabC (n := 16) (fun j => Ideal.cos (angle 1107296256#32 (p - 240) j)) l.val)
    (h1 : 240 ≤ p → s1 l = tabS1 (n := 16) (fun j => Ideal.sin (angle 1107296256#32 (p - 240) j)) l.val)
    (h2 : 240 ≤ p → s2 l = tabS2 (n := 16) (fun j => Ideal.sin (angle 1107296256#32 (p - 240) j)) l.val)
    (base hd : ℕ) (hb : base + 512 ≤ 2048) (h4 : hd < 4) :
    slab 16 (wide P) (base + hd * 128) (by omega) c s1 s2 l = headRope base (by omega) P (p - 240) ⟨hd * 128 + l.val, by omega⟩ := by
  by_cases hp : 240 ≤ p
  · have e : l.val % 128 = l.val := Nat.mod_eq_of_lt l.isLt
    refine (slab_rope (w := 128) (.inr rfl) (by omega) (wide P) _ _ c s1 s2 _ _ l ((hc hp).trans (by rw [e])) ((h1 hp).trans (by rw [e])) ((h2 hp).trans (by rw [e]))
      (fun j => P ⟨base + ((hd * 128 + l.val) / 128 * 128 + j.val), by omega⟩) ?_).trans ?_
    · intro j h
      simp only [wide, dif_pos (show base + hd * 128 + (l.val / 128 * 128 + j.val) < 2048 by omega)]
      congr 2; omega
    · unfold headRope
      congr 1
      exact Fin.ext (by show l.val % 128 = (hd * 128 + l.val) % 128; omega)
  · rw [hP (by omega), slab_zero, headRope_zero]

/-- Two indexer query heads of a padded row. -/
theorem slab_index (hc : 240 ≤ p → c l = tabC (n := 8) (fun j => Ideal.cos (angle 1098907648#32 (p - 240) j)) (l.val % 64))
    (h1 : 240 ≤ p → s1 l = tabS1 (n := 8) (fun j => Ideal.sin (angle 1098907648#32 (p - 240) j)) (l.val % 64))
    (h2 : 240 ≤ p → s2 l = tabS2 (n := 8) (fun j => Ideal.sin (angle 1098907648#32 (p - 240) j)) (l.val % 64))
    (hd : ℕ) (h4 : hd < 4) :
    slab 8 (wide P) (1536 + hd * 128) (by omega) c s1 s2 l = indexRope P (p - 240) ⟨hd * 128 + l.val, by omega⟩ := by
  by_cases hp : 240 ≤ p
  · refine (slab_rope (w := 64) (.inl rfl) (by omega) (wide P) _ _ c s1 s2 _ _ l (hc hp) (h1 hp) (h2 hp)
      (fun j => P ⟨1536 + ((hd * 128 + l.val) / 64 * 64 + j.val), by omega⟩) ?_).trans ?_
    · intro j h
      simp only [wide, dif_pos (show 1536 + hd * 128 + (l.val / 64 * 64 + j.val) < 2048 by omega)]
      congr 2; omega
    · unfold indexRope
      congr 1
      exact Fin.ext (by show l.val % 64 = (hd * 128 + l.val) % 64; omega)
  · rw [hP (by omega), slab_zero]; exact (rope_zero _ _ _ _).symm

/-- The indexer key of a padded row. -/
theorem slab_key (hl : l.val < 64) (hc : 240 ≤ p → c l = tabC (n := 8) (fun j => Ideal.cos (angle 1098907648#32 (p - 240) j)) (l.val % 64))
    (h1 : 240 ≤ p → s1 l = tabS1 (n := 8) (fun j => Ideal.sin (angle 1098907648#32 (p - 240) j)) (l.val % 64))
    (h2 : 240 ≤ p → s2 l = tabS2 (n := 8) (fun j => Ideal.sin (angle 1098907648#32 (p - 240) j)) (l.val % 64)) :
    slab 8 (wide P) 3072 (by omega) c s1 s2 l = keyRope P (p - 240) ⟨l.val, hl⟩ := by
  by_cases hp : 240 ≤ p
  · refine (slab_rope (w := 64) (.inl rfl) (by omega) (wide P) _ _ c s1 s2 _ _ l (hc hp) (h1 hp) (h2 hp)
      (fun j => P ⟨2048 + j.val, by omega⟩) ?_).trans ?_
    · intro j h
      have e0 : l.val / 64 = 0 := by omega
      simp only [wide, e0, dif_neg (show ¬ 3072 + (0 * 64 + j.val) < 2048 by omega), dif_neg (show ¬ 3072 + (0 * 64 + j.val) < 3072 by omega),
        dif_pos (show 3072 + (0 * 64 + j.val) < 3144 by omega)]
      congr 2; omega
    · unfold keyRope
      congr 1
      exact Fin.ext (by show l.val % 64 = l.val; omega)
  · rw [hP (by omega), slab_zero, keyRope_zero]
end slabs

end ProjLayer

end
-- ==== Proof.Proj.Pay.lean ====
/- What the projection kernel's stores hold at an entry, over the loads as variables. -/
module

public import proofs.«01_k».proof.Proof.Gen.ProjIdeal.Value
public import proofs.«01_k».proof.Proof.Proj.Layer
public import Idealize.ShloMosaic.Lib.Pointwise

@[expose] public section
set_option maxRecDepth 16384

noncomputable section
open Idealize.ShloMosaic Idealize.ShloMosaic.TcCoe Idealize.SL.Sem
namespace Cert.ProjIdeal.Value
open Cert.ProjIdeal Cert.ProjIdeal.Gen

/-- A slab of one row of the product through the three factors of the row. -/
abbrev sl (n : ℕ) (v22 : FVec Ideal S256x3200 .f32) (base : ℕ) (hb : base + 128 ≤ 3200) (v24 v26 v28 : FVec Ideal S256x128 .f32) (r : Fin 256) (l : Fin 128) : EReal :=
  ProjLayer.slab n (fun f => v22 (ix2 r f)) base hb (fun l => v24 (ix2 r l)) (fun l => v26 (ix2 r l)) (fun l => v28 (ix2 r l)) l

section rotary
variable (v22 : FVec Ideal S256x3200 .f32) (v24 v26 v28 : FVec Ideal S256x128 .f32) (v31 v33 : Vec Ideal S1x256x128 .f32) (r : Fin 256) (l : Fin 128)

/-- Query head 0: its slab through the rotary factors, scaled. -/
theorem pay9 : k0_pay9 v22 v24 v26 v28 (ix3 0 r l) = sl 16 v22 (0 + 0 * 128) (by omega) v24 v26 v28 r l * Ideal.ofBits FTy.f32 1035273459#32 := by
  pointwise [k0_pay9, sl, ProjLayer.slab]
/-- Query head 1: its slab through the rotary factors, scaled. -/
theorem pay14 : k0_pay14 v22 v24 v26 v28 (ix3 0 r l) = sl 16 v22 (0 + 1 * 128) (by omega) v24 v26 v28 r l * Ideal.ofBits FTy.f32 1035273459#32 := by
  pointwise [k0_pay14, sl, ProjLayer.slab]
/-- Query head 2: its slab through the rotary factors, scaled. -/
theorem pay19 : k0_pay19 v22 v24 v26 v28 (ix3 0 r l) = sl 16 v22 (0 + 2 * 128) (by omega) v24 v26 v28 r l * Ideal.ofBits FTy.f32 1035273459#32 := by
  pointwise [k0_pay19, sl, ProjLayer.slab]
/-- Query head 3: its slab through the rotary factors, scaled. -/
theorem pay24 : k0_pay24 v22 v24 v26 v28 (ix3 0 r l) = sl 16 v22 (0 + 3 * 128) (by omega) v24 v26 v28 r l * Ideal.ofBits FTy.f32 1035273459#32 := by
  pointwise [k0_pay24, sl, ProjLayer.slab]
/-- Key head 0: its slab through the rotary factors. -/
theorem pay10 : k0_pay10 v22 v24 v26 v28 (ix3 0 r l) = sl 16 v22 (512 + 0 * 128) (by omega) v24 v26 v28 r l := by
  pointwise [k0_pay10, sl, ProjLayer.slab]
/-- Key head 1: its slab through the rotary factors. -/
theorem pay15 : k0_pay15 v22 v24 v26 v28 (ix3 0 r l) = sl 16 v22 (512 + 1 * 128) (by omega) v24 v26 v28 r l := by
  pointwise [k0_pay15, sl, ProjLayer.slab]
/-- Key head 2: its slab through the rotary factors. -/
theorem pay20 : k0_pay20 v22 v24 v26 v28 (ix3 0 r l) = sl 16 v22 (512 + 2 * 128) (by omega) v24 v26 v28 r l := by
  pointwise [k0_pay20, sl, ProjLayer.slab]
/-- Key head 3: its slab through the rotary factors. -/
theorem pay25 : k0_pay25 v22 v24 v26 v28 (ix3 0 r l) = sl 16 v22 (512 + 3 * 128) (by omega) v24 v26 v28 r l := by
  pointwise [k0_pay25, sl, ProjLayer.slab]
/-- Indexer query heads 0 and 1: their slab through the rotary factors, scaled. -/
theorem pay13 : k0_pay13 (k0_pay11 v22 v24 v31 v33) (k0_pay12 (F := Ideal)) (ix3 0 r l)
    = sl 8 v22 (1536 + 0 * 128) (by omega) v24 (k0_pay7 v31) (k0_pay8 v33) r l * Ideal.ofBits FTy.f32 1040187392#32 := by
  pointwise [k0_pay13, k0_pay11, k0_pay12, k0_pay7, k0_pay8, sl, ProjLayer.slab]
/-- Indexer query heads 2 and 3: their slab through the rotary factors, scaled. -/
theorem pay18 : k0_pay18 (k0_pay16 v22 v24 v26 v28) (k0_pay17 (F := Ideal)) (ix3 0 r l) = sl 8 v22 (1536 + 1 * 128) (by omega) v24 v26 v28 r l * Ideal.ofBits FTy.f32 1040187392#32 := by
  pointwise [k0_pay18, k0_pay16, k0_pay17, sl, ProjLayer.slab]
/-- Indexer query heads 4 and 5: their slab through the rotary factors, scaled. -/
theorem pay23 : k0_pay23 (k0_pay21 v22 v24 v26 v28) (k0_pay22 (F := Ideal)) (ix3 0 r l) = sl 8 v22 (1536 + 2 * 128) (by omega) v24 v26 v28 r l * Ideal.ofBits FTy.f32 1040187392#32 := by
  pointwise [k0_pay23, k0_pay21, k0_pay22, sl, ProjLayer.slab]
/-- Indexer query heads 6 and 7: their slab through the rotary factors, scaled. -/
theorem pay28 : k0_pay28 (k0_pay26 v22 v24 v26 v28) (k0_pay27 (F := Ideal)) (ix3 0 r l) = sl 8 v22 (1536 + 3 * 128) (by omega) v24 v26 v28 r l * Ideal.ofBits FTy.f32 1040187392#32 := by
  pointwise [k0_pay28, k0_pay26, k0_pay27, sl, ProjLayer.slab]
/-- The values: columns of the product. -/
theorem pay29 (f : Fin 512) : k0_pay29 v22 (ix3 0 r f) = v22 (ix2 r ⟨1024 + f.val, by omega⟩) := by
  pointwise [k0_pay29]
/-- The lane mask of the low half. -/
theorem pay30 : k0_pay30 (ix2 r l) = if l.val < 64 then 1#1 else 0#1 := by
  revert l
  pointwise [k0_pay30]
  decide +kernel
/-- The last slab's low lanes: the indexer key through the rotary factors. -/
theorem pay32 (h : l.val < 64) : k0_pay32 v22 v24 v26 v28 (ix2 r l) = sl 8 v22 3072 (by omega) v24 v26 v28 r l := by
  have e := pay30 r l
  rw [if_pos h] at e
  unfold k0_pay32
  generalize k0_pay30 = K at e ⊢
  pointwise [k0_pay31, sl, ProjLayer.slab]
  simp only [e]
  rfl
/-- The indexer key with zeros in the high lanes. -/
theorem pay34 : k0_pay34 v22 v24 v26 v28 (ix2 r l) = if l.val < 64 then k0_pay32 v22 v24 v26 v28 (ix2 r l) else (0 : EReal) := by
  have e := pay30 r l
  unfold k0_pay34
  generalize k0_pay30 = K at e ⊢
  generalize k0_pay32 v22 v24 v26 v28 = Z
  pointwise []
  rw [e]
  by_cases h : l.val < 64 <;> simp only [h, if_true, if_false] <;> rfl
/-- The stored indexer key, with the scaled indexer weights in the high lanes. -/
theorem pay33 : k0_pay33 v22 v24 v26 v28 (ix3 0 r l) = if l.val < 64 then k0_pay32 v22 v24 v26 v28 (ix2 r l)
    else v22 (ix2 r ⟨3072 + l.val, by omega⟩) * Ideal.ofBits FTy.f32 1052050675#32 := by
  have e := pay30 r l
  unfold k0_pay33
  generalize k0_pay30 = K at e ⊢
  generalize k0_pay32 v22 v24 v26 v28 = Z
  pointwise [k0_pay31]
  rw [e]
  by_cases h : l.val < 64 <;> simp only [h, if_true, if_false] <;> rfl
/-- The low-lane indexer key as stored. -/
theorem pay36 : k0_pay36 (k0_pay35 v22 v24 v26 v28) (ix3 0 r l) = k0_pay34 v22 v24 v26 v28 (ix2 r l) := by
  unfold k0_pay35
  generalize k0_pay34 v22 v24 v26 v28 = Z
  pointwise [k0_pay36]
/-- The indexer key moved by half the lanes. -/
theorem pay37 (Z : FVec Ideal S256x128 .f32) : k0_pay37 Z (ix3 0 r l) = Z (ix2 r ⟨(l.val + 128 - 64) % 128, by omega⟩) := by
  pointwise [k0_pay37]
/-- The gated convolution input of a row. -/
theorem pay39 (f : Fin 512) : k0_pay39 v22 (ix2 r f) = v22 (ix2 r ⟨2048 + f.val, by omega⟩) * Ideal.logistic (v22 (ix2 r ⟨2560 + f.val, by omega⟩)) := by
  pointwise [k0_pay39]
end rotary

section norm
variable (y : FVec Ideal S256x512 .f32) (g b : Vec Ideal S1x128 .f32) (r : Fin 256) (l : Fin 128)
/-- The normed and activated channels of one group. -/
abbrev ns (base : ℕ) (hb : base + 128 ≤ 512) : EReal :=
  ProjLayer.normSwish (fun l => y (ix2 r ⟨base + l.val, by omega⟩)) (g (ix2 0 l)) (b (ix2 0 l)) l
/-- Channel group 0: normed and activated. -/
theorem pay57 : k0_pay57 y g b (ix3 0 r l) = ns y g b r l 0 (by omega) := by
  pointwise [k0_pay57, ns, ProjLayer.normSwish]
/-- Channel group 1: normed and activated. -/
theorem pay60 : k0_pay60 (k0_pay58 y) (k0_pay59 y) g b (ix3 0 r l) = ns y g b r l 128 (by omega) := by
  pointwise [k0_pay60, k0_pay58, k0_pay59, ns, ProjLayer.normSwish]
/-- Channel group 2: normed and activated. -/
theorem pay62 : k0_pay62 (k0_pay61 y g) b (ix3 0 r l) = ns y g b r l 256 (by omega) := by
  pointwise [k0_pay62, k0_pay61, ns, ProjLayer.normSwish]
/-- Channel group 3: normed and activated. -/
theorem pay63 : k0_pay1 (k0_pay63 y g b) (ix3 0 r l) = ns y g b r l 384 (by omega) := by
  pointwise [k0_pay1, k0_pay63, ns, ProjLayer.normSwish]
end norm

section conv
/-- The convolution of one row, the taps taken in the kernel's order. -/
theorem convPay (b : Vec Ideal S1x512 .f32) (v0 v1 v2 v3 v4 v5 v6 v7 v8 v9 v10 v11 v12 v13 v14 v15 v16 v17 v18 v19 v20 v21 v22 v23 v24 v25 v26 v27 v28 v29 v30 : Vec Ideal S256x512 .f32) (c0 c1 c2 c3 c4 c5 c6 c7 c8 c9 c10 c11 c12 c13 c14 c15 c16 c17 c18 c19 c20 c21 c22 c23 c24 c25 c26 c27 c28 c29 c30 : Vec Ideal S1x512 .f32) (r : Fin 256) (f : Fin 512) (u w : Fin 31 → EReal)
    (h0 : v0 (ix2 r f) = u 0) (k0 : c0 (ix2 0 f) = w 0) (h1 : v1 (ix2 r f) = u 1) (k1 : c1 (ix2 0 f) = w 1) (h2 : v2 (ix2 r f) = u 2) (k2 : c2 (ix2 0 f) = w 2) (h3 : v3 (ix2 r f) = u 3) (k3 : c3 (ix2 0 f) = w 3)
    (h4 : v4 (ix2 r f) = u 4) (k4 : c4 (ix2 0 f) = w 4) (h5 : v5 (ix2 r f) = u 5) (k5 : c5 (ix2 0 f) = w 5) (h6 : v6 (ix2 r f) = u 6) (k6 : c6 (ix2 0 f) = w 6) (h7 : v7 (ix2 r f) = u 7) (k7 : c7 (ix2 0 f) = w 7)
    (h8 : v8 (ix2 r f) = u 8) (k8 : c8 (ix2 0 f) = w 8) (h9 : v9 (ix2 r f) = u 9) (k9 : c9 (ix2 0 f) = w 9) (h10 : v10 (ix2 r f) = u 10) (k10 : c10 (ix2 0 f) = w 10) (h11 : v11 (ix2 r f) = u 11) (k11 : c11 (ix2 0 f) = w 11)
    (h12 : v12 (ix2 r f) = u 12) (k12 : c12 (ix2 0 f) = w 12) (h13 : v13 (ix2 r f) = u 13) (k13 : c13 (ix2 0 f) = w 13) (h14 : v14 (ix2 r f) = u 14) (k14 : c14 (ix2 0 f) = w 14) (h15 : v15 (ix2 r f) = u 15) (k15 : c15 (ix2 0 f) = w 15)
    (h16 : v16 (ix2 r f) = u 16) (k16 : c16 (ix2 0 f) = w 16) (h17 : v17 (ix2 r f) = u 17) (k17 : c17 (ix2 0 f) = w 17) (h18 : v18 (ix2 r f) = u 18) (k18 : c18 (ix2 0 f) = w 18) (h19 : v19 (ix2 r f) = u 19) (k19 : c19 (ix2 0 f) = w 19)
    (h20 : v20 (ix2 r f) = u 20) (k20 : c20 (ix2 0 f) = w 20) (h21 : v21 (ix2 r f) = u 21) (k21 : c21 (ix2 0 f) = w 21) (h22 : v22 (ix2 r f) = u 22) (k22 : c22 (ix2 0 f) = w 22) (h23 : v23 (ix2 r f) = u 23) (k23 : c23 (ix2 0 f) = w 23)
    (h24 : v24 (ix2 r f) = u 24) (k24 : c24 (ix2 0 f) = w 24) (h25 : v25 (ix2 r f) = u 25) (k25 : c25 (ix2 0 f) = w 25) (h26 : v26 (ix2 r f) = u 26) (k26 : c26 (ix2 0 f) = w 26) (h27 : v27 (ix2 r f) = u 27) (k27 : c27 (ix2 0 f) = w 27)
    (h28 : v28 (ix2 r f) = u 28) (k28 : c28 (ix2 0 f) = w 28) (h29 : v29 (ix2 r f) = u 29) (k29 : c29 (ix2 0 f) = w 29) (h30 : v30 (ix2 r f) = u 30) (k30 : c30 (ix2 0 f) = w 30)
    : k0_pay55 (k0_pay53 (k0_pay51 (k0_pay48 (k0_pay45 (k0_pay43 (k0_pay41 b v0 c0) v8 c8 v16 c16 v24 c24 v1 c1 v9 c9) v17 c17 v25 c25 v2 c2 v10 c10 v18 c18) v26 (k0_pay46 c26) v3 c3 v11 c11 v19 c19 v27 c27) v4 c4 v12 c12 v20 c20 v28 c28 v5 c5) v13 c13 v21 c21 v29 c29 v6 c6 v14 c14) v22 c22 v30 c30 v7 c7 v15 c15 v23 c23 (ix2 r f) = ProjLayer.convAt u w (b (ix2 0 f)) := by
  pointwise [k0_pay41, k0_pay43, k0_pay45, k0_pay46, k0_pay48, k0_pay51, k0_pay53, k0_pay55]
  simp only [h0, k0, h1, k1, h2, k2, h3, k3, h4, k4, h5, k5, h6, k6, h7, k7, h8, k8, h9, k9, h10, k10, h11, k11, h12, k12, h13, k13, h14, k14, h15, k15, h16, k16, h17, k17, h18, k18, h19, k19, h20, k20, h21, k21, h22, k22, h23, k23, h24, k24, h25, k25, h26, k26, h27, k27, h28, k28, h29, k29, h30, k30]
  simp [ProjLayer.convAt, Fin.sum_univ_succ]
  abel
end conv

/-- One row of the product. -/
theorem pay2 (i : grid0.Coords) (v1 : Vec Ideal S256x1024 .f32) (v3 : Vec Ideal S1x256x1024 .f32) (v6 : Vec Ideal S1x1024 .f32) (v20 : Vec Ideal S1024x3200 .bf16)
    (r : Fin 256) (f : Fin 3200) (h : Fin 1024 → EReal) (hh : ∀ k, (if (i 1).val = 0 then v1 (ix2 r k) else v3 (ix3 0 r k)) = h k) :
    k0_pay2 i v1 v3 v6 v20 (ix2 r f) = ∑ k, Layer.rmsNorm h (fun e => v6 (ix2 0 e)) k * v20 (ix2 k f) := by
  pointwise [k0_pay2, Layer.rmsNorm]
  have e : ∀ x, Scalar.select (Scalar.cmpi CmpIPredicate.eq (BitVec.ofNat 32 ↑(i 1)) 0#32) (v1 (ix2 r x)) (v3 (ix3 0 r x)) = h x := fun x => by
    rw [← hh x, (by decide : ∀ a : Fin 33, Scalar.cmpi CmpIPredicate.eq (BitVec.ofNat 32 a.val) 0#32 = if a.val = 0 then 1#1 else 0#1) (i 1)]
    by_cases h : (i 1).val = 0 <;> simp only [h, if_true, if_false] <;> rfl
  simp only [e]

end Cert.ProjIdeal.Value
end
-- ==== Proof.Proj.Tables.lean ====
/- The projection kernel's prepared operands: the widened weights and the rotary factors of every padded row. -/
module

public import proofs.«01_k».proof.Proof.Gen.ProjIdeal.Value
public import proofs.«01_k».proof.Proof.Proj.Layer
public import Idealize.ShloMosaic.Lib.Pipeline.ValueKit
public import Idealize.ShloMosaic.Lib.StableHlo.RunRead
public import Idealize.ShloMosaic.Lib.Pointwise

@[expose] public section
set_option maxRecDepth 16384

noncomputable section
open Idealize.ShloMosaic Idealize.ShloMosaic.TcCoe Idealize.SL.Sem
open Idealize.ShloMosaic.Pipeline (Dat)
namespace Cert.ProjIdeal.Value
open Cert.ProjIdeal Cert.ProjIdeal.Gen

/-- The angles of the padded rows at the 16 frequencies. -/
def angQ : FVec Ideal S8448x16 .f32 :=
  mulf (broadcastInDim S8448x16 ![0, 1] bcast_S8448x1_S8448x16_0_1 (broadcastInDim S8448x1 ![0] bcast_S8448_S8448x1_0
      (subf (sitofp .f32 (iotaInDim S8448 32 0)) (broadcastInDim S8448 ![] bcast_S_S8448 (constant S_ .f32 0x43700000#32)))))
    (broadcastInDim S8448x16 ![0, 1] bcast_S1x16_S8448x16_0_1 (broadcastInDim S1x16 ![1] bcast_S16_S1x16_1
      (Host.powf (broadcastInDim S16 ![] bcast_S_S16 (constant S_ .f32 0x48F42400#32))
        (Host.divf (Host.negf (addf (broadcastInDim S16 ![] bcast_S_S16 (constant S_ .f32 0x00000000#32))
            (mulf (broadcastInDim S16 ![] bcast_S_S16 (constant S_ .f32 0x40000000#32)) (sitofp .f32 (iotaInDim S16 32 0)))))
          (broadcastInDim S16 ![] bcast_S_S16 (constant S_ .f32 0x42000000#32))))))

/-- The three factors of every padded row and lane. -/
def tabQ : FVec Ideal S3x8448x128 .f32 :=
  concatenate S3x8448x128 0 [⟨S1x8448x128, (broadcastInDim S1x8448x128 ![1, 2] bcast_S8448x128_S1x8448x128_1_2 (shapeCast S8448x128 (broadcastInDim S1x8448x1x128 ![0, 1, 2, 3] bcast_S1x8448x1x128_S1x8448x1x128_0_1_2_3
      (shapeCast S1x8448x1x128 (concatenate S8448x128 1 [⟨S8448x16, (Host.cos angQ : FVec Ideal S8448x16 .f32)⟩, ⟨S8448x16, (Host.cos angQ : FVec Ideal S8448x16 .f32)⟩, ⟨S8448x96, ((broadcastInDim S8448x96 ![] bcast_S_S8448x96 (constant S_ .f32 0x3F800000#32)) : FVec Ideal S8448x96 .f32)⟩] concatenates_S8448x16_S8448x16_S8448x96_S8448x128_d1) shapeCasts_S8448x128_S1x8448x1x128)) shapeCasts_S1x8448x1x128_S8448x128) : FVec Ideal S1x8448x128 .f32)⟩,
    ⟨S1x8448x128, (broadcastInDim S1x8448x128 ![1, 2] bcast_S8448x128_S1x8448x128_1_2 (shapeCast S8448x128 (broadcastInDim S1x8448x1x128 ![0, 1, 2, 3] bcast_S1x8448x1x128_S1x8448x1x128_0_1_2_3
      (shapeCast S1x8448x1x128 (concatenate S8448x128 1 [⟨S8448x16, ((broadcastInDim S8448x16 ![] bcast_S_S8448x16 (constant S_ .f32 0x00000000#32)) : FVec Ideal S8448x16 .f32)⟩, ⟨S8448x16, (Host.sin angQ : FVec Ideal S8448x16 .f32)⟩, ⟨S8448x96, ((broadcastInDim S8448x96 ![] bcast_S_S8448x96 (constant S_ .f32 0x00000000#32)) : FVec Ideal S8448x96 .f32)⟩] concatenates_S8448x16_S8448x16_S8448x96_S8448x128_d1) shapeCasts_S8448x128_S1x8448x1x128)) shapeCasts_S1x8448x1x128_S8448x128) : FVec Ideal S1x8448x128 .f32)⟩,
    ⟨S1x8448x128, (broadcastInDim S1x8448x128 ![1, 2] bcast_S8448x128_S1x8448x128_1_2 (shapeCast S8448x128 (broadcastInDim S1x8448x1x128 ![0, 1, 2, 3] bcast_S1x8448x1x128_S1x8448x1x128_0_1_2_3
      (shapeCast S1x8448x1x128 (concatenate S8448x128 1 [⟨S8448x16, (Host.negf (Host.sin angQ) : FVec Ideal S8448x16 .f32)⟩, ⟨S8448x16, ((broadcastInDim S8448x16 ![] bcast_S_S8448x16 (constant S_ .f32 0x00000000#32)) : FVec Ideal S8448x16 .f32)⟩, ⟨S8448x96, ((broadcastInDim S8448x96 ![] bcast_S_S8448x96 (constant S_ .f32 0x00000000#32)) : FVec Ideal S8448x96 .f32)⟩] concatenates_S8448x16_S8448x16_S8448x96_S8448x128_d1) shapeCasts_S8448x128_S1x8448x1x128)) shapeCasts_S1x8448x1x128_S8448x128) : FVec Ideal S1x8448x128 .f32)⟩] concatenates_S1x8448x128_S1x8448x128_S1x8448x128_S3x8448x128_d0

/-- The angles of the padded rows at the 8 frequencies. -/
def angI : FVec Ideal S8448x8 .f32 :=
  mulf (broadcastInDim S8448x8 ![0, 1] bcast_S8448x1_S8448x8_0_1 (broadcastInDim S8448x1 ![0] bcast_S8448_S8448x1_0
      (subf (sitofp .f32 (iotaInDim S8448 32 0)) (broadcastInDim S8448 ![] bcast_S_S8448 (constant S_ .f32 0x43700000#32)))))
    (broadcastInDim S8448x8 ![0, 1] bcast_S1x8_S8448x8_0_1 (broadcastInDim S1x8 ![1] bcast_S8_S1x8_1
      (Host.powf (broadcastInDim S8 ![] bcast_S_S8 (constant S_ .f32 0x48F42400#32))
        (Host.divf (Host.negf (addf (broadcastInDim S8 ![] bcast_S_S8 (constant S_ .f32 0x00000000#32))
            (mulf (broadcastInDim S8 ![] bcast_S_S8 (constant S_ .f32 0x40000000#32)) (sitofp .f32 (iotaInDim S8 32 0)))))
          (broadcastInDim S8 ![] bcast_S_S8 (constant S_ .f32 0x41800000#32))))))

/-- The three factors of every padded row and lane, for the indexer. -/
def tabI : FVec Ideal S3x8448x128 .f32 :=
  concatenate S3x8448x128 0 [⟨S1x8448x128, (broadcastInDim S1x8448x128 ![1, 2] bcast_S8448x128_S1x8448x128_1_2 (shapeCast S8448x128 (broadcastInDim S1x8448x2x64 ![0, 1, 2, 3] bcast_S1x8448x1x64_S1x8448x2x64_0_1_2_3
      (shapeCast S1x8448x1x64 (concatenate S8448x64 1 [⟨S8448x8, (Host.cos angI : FVec Ideal S8448x8 .f32)⟩, ⟨S8448x8, (Host.cos angI : FVec Ideal S8448x8 .f32)⟩, ⟨S8448x48, ((broadcastInDim S8448x48 ![] bcast_S_S8448x48 (constant S_ .f32 0x3F800000#32)) : FVec Ideal S8448x48 .f32)⟩] concatenates_S8448x8_S8448x8_S8448x48_S8448x64_d1) shapeCasts_S8448x64_S1x8448x1x64)) shapeCasts_S1x8448x2x64_S8448x128) : FVec Ideal S1x8448x128 .f32)⟩,
    ⟨S1x8448x128, (broadcastInDim S1x8448x128 ![1, 2] bcast_S8448x128_S1x8448x128_1_2 (shapeCast S8448x128 (broadcastInDim S1x8448x2x64 ![0, 1, 2, 3] bcast_S1x8448x1x64_S1x8448x2x64_0_1_2_3
      (shapeCast S1x8448x1x64 (concatenate S8448x64 1 [⟨S8448x8, ((broadcastInDim S8448x8 ![] bcast_S_S8448x8 (constant S_ .f32 0x00000000#32)) : FVec Ideal S8448x8 .f32)⟩, ⟨S8448x8, (Host.sin angI : FVec Ideal S8448x8 .f32)⟩, ⟨S8448x48, ((broadcastInDim S8448x48 ![] bcast_S_S8448x48 (constant S_ .f32 0x00000000#32)) : FVec Ideal S8448x48 .f32)⟩] concatenates_S8448x8_S8448x8_S8448x48_S8448x64_d1) shapeCasts_S8448x64_S1x8448x1x64)) shapeCasts_S1x8448x2x64_S8448x128) : FVec Ideal S1x8448x128 .f32)⟩,
    ⟨S1x8448x128, (broadcastInDim S1x8448x128 ![1, 2] bcast_S8448x128_S1x8448x128_1_2 (shapeCast S8448x128 (broadcastInDim S1x8448x2x64 ![0, 1, 2, 3] bcast_S1x8448x1x64_S1x8448x2x64_0_1_2_3
      (shapeCast S1x8448x1x64 (concatenate S8448x64 1 [⟨S8448x8, (Host.negf (Host.sin angI) : FVec Ideal S8448x8 .f32)⟩, ⟨S8448x8, ((broadcastInDim S8448x8 ![] bcast_S_S8448x8 (constant S_ .f32 0x00000000#32)) : FVec Ideal S8448x8 .f32)⟩, ⟨S8448x48, ((broadcastInDim S8448x48 ![] bcast_S_S8448x48 (constant S_ .f32 0x00000000#32)) : FVec Ideal S8448x48 .f32)⟩] concatenates_S8448x8_S8448x8_S8448x48_S8448x64_d1) shapeCasts_S8448x64_S1x8448x1x64)) shapeCasts_S1x8448x2x64_S8448x128) : FVec Ideal S1x8448x128 .f32)⟩] concatenates_S1x8448x128_S1x8448x128_S1x8448x128_S3x8448x128_d0

/-- The angles, over extended reals. -/
theorem angQ_apply (p : Fin 8448) (l : Fin 16) (h : 240 ≤ p.val) : angQ (ix2 p l) = ProjLayer.angle 1107296256#32 (p.val - 240) l.val := by
  unfold ProjLayer.angle ProjLayer.freq
  rw [← ProjLayer.sitofp_sub p.val h p.isLt]
  pointwise [angQ]
/-- Factor 0 of a row. -/
theorem tabQ_apply0 (p : Fin 8448) (l : Fin 128) (h : 240 ≤ p.val) :
    tabQ (ix3 0 p l) = ProjLayer.tabC (n := 16) (fun j => Ideal.cos (ProjLayer.angle 1107296256#32 (p.val - 240) j)) l.val := by
  have e := fun l => angQ_apply p l h
  unfold tabQ
  generalize angQ = A at e ⊢
  pointwise [ProjLayer.tabC]
  simp only [e]
  by_cases h1 : l.val < 16
  · simp only [dif_pos h1]
  · by_cases h2 : l.val < 2 * 16
    · simp only [dif_neg h1, dif_pos h2, dif_pos (show l.val - 16 < 16 by omega)]
    · simp only [dif_neg h1, dif_neg h2, dif_neg (show ¬ l.val - 16 < 16 by omega)]
/-- Factor 1 of a row. -/
theorem tabQ_apply1 (p : Fin 8448) (l : Fin 128) (h : 240 ≤ p.val) :
    tabQ (ix3 1 p l) = ProjLayer.tabS1 (n := 16) (fun j => Ideal.sin (ProjLayer.angle 1107296256#32 (p.val - 240) j)) l.val := by
  have e := fun l => angQ_apply p l h
  unfold tabQ
  generalize angQ = A at e ⊢
  pointwise [ProjLayer.tabS1]
  simp only [e]
  by_cases h1 : l.val < 16
  · simp only [dif_pos h1]
  · by_cases h2 : l.val < 2 * 16
    · simp only [dif_neg h1, dif_pos h2, dif_pos (show l.val - 16 < 16 by omega)]
    · simp only [dif_neg h1, dif_neg h2, dif_neg (show ¬ l.val - 16 < 16 by omega)]
/-- Factor 2 of a row. -/
theorem tabQ_apply2 (p : Fin 8448) (l : Fin 128) (h : 240 ≤ p.val) :
    tabQ (ix3 2 p l) = ProjLayer.tabS2 (n := 16) (fun j => Ideal.sin (ProjLayer.angle 1107296256#32 (p.val - 240) j)) l.val := by
  have e := fun l => angQ_apply p l h
  unfold tabQ
  generalize angQ = A at e ⊢
  pointwise [ProjLayer.tabS2]
  simp only [e]
  by_cases h1 : l.val < 16
  · simp only [dif_pos h1]
  · by_cases h2 : l.val < 2 * 16
    · simp only [dif_neg h1, dif_pos h2, dif_pos (show l.val - 16 < 16 by omega)]
    · simp only [dif_neg h1, dif_neg h2, dif_neg (show ¬ l.val - 16 < 16 by omega)]

/-- The angles, over extended reals. -/
theorem angI_apply (p : Fin 8448) (l : Fin 8) (h : 240 ≤ p.val) : angI (ix2 p l) = ProjLayer.angle 1098907648#32 (p.val - 240) l.val := by
  unfold ProjLayer.angle ProjLayer.freq
  rw [← ProjLayer.sitofp_sub p.val h p.isLt]
  pointwise [angI]
/-- Factor 0 of a row. -/
theorem tabI_apply0 (p : Fin 8448) (l : Fin 128) (h : 240 ≤ p.val) :
    tabI (ix3 0 p l) = ProjLayer.tabC (n := 8) (fun j => Ideal.cos (ProjLayer.angle 1098907648#32 (p.val - 240) j)) (l.val % 64) := by
  have e := fun l => angI_apply p l h
  unfold tabI
  generalize angI = A at e ⊢
  pointwise [ProjLayer.tabC]
  simp only [e]
  by_cases h1 : l.val % 64 < 8
  · simp only [dif_pos h1]
  · by_cases h2 : l.val % 64 < 2 * 8
    · simp only [dif_neg h1, dif_pos h2, dif_pos (show l.val % 64 - 8 < 8 by omega)]
    · simp only [dif_neg h1, dif_neg h2, dif_neg (show ¬ l.val % 64 - 8 < 8 by omega)]
/-- Factor 1 of a row. -/
theorem tabI_apply1 (p : Fin 8448) (l : Fin 128) (h : 240 ≤ p.val) :
    tabI (ix3 1 p l) = ProjLayer.tabS1 (n := 8) (fun j => Ideal.sin (ProjLayer.angle 1098907648#32 (p.val - 240) j)) (l.val % 64) := by
  have e := fun l => angI_apply p l h
  unfold tabI
  generalize angI = A at e ⊢
  pointwise [ProjLayer.tabS1]
  simp only [e]
  by_cases h1 : l.val % 64 < 8
  · simp only [dif_pos h1]
  · by_cases h2 : l.val % 64 < 2 * 8
    · simp only [dif_neg h1, dif_pos h2, dif_pos (show l.val % 64 - 8 < 8 by omega)]
    · simp only [dif_neg h1, dif_neg h2, dif_neg (show ¬ l.val % 64 - 8 < 8 by omega)]
/-- Factor 2 of a row. -/
theorem tabI_apply2 (p : Fin 8448) (l : Fin 128) (h : 240 ≤ p.val) :
    tabI (ix3 2 p l) = ProjLayer.tabS2 (n := 8) (fun j => Ideal.sin (ProjLayer.angle 1098907648#32 (p.val - 240) j)) (l.val % 64) := by
  have e := fun l => angI_apply p l h
  unfold tabI
  generalize angI = A at e ⊢
  pointwise [ProjLayer.tabS2]
  simp only [e]
  by_cases h1 : l.val % 64 < 8
  · simp only [dif_pos h1]
  · by_cases h2 : l.val % 64 < 2 * 8
    · simp only [dif_neg h1, dif_pos h2, dif_pos (show l.val % 64 - 8 < 8 by omega)]
    · simp only [dif_neg h1, dif_neg h2, dif_neg (show ¬ l.val % 64 - 8 < 8 by omega)]

variable (m : (ℓ : Loc nD τ sig) → Buf (Elt Ideal) ℓ)
variable (c : Dev nD)

/-- The attention factors at entry. -/
theorem tabQ_eq : (V m c main_v48 : Vec Ideal S3x8448x128 .f32) = tabQ := by
  show StableHlo.after hostOps0 _ (Proc.devRef .tc main_v48) = _
  after_reads_simp
  rfl
set_option maxHeartbeats 4000000 in
/-- The indexer factors at entry. -/
theorem tabI_eq : (V m c main_v88 : Vec Ideal S3x8448x128 .f32) = tabI := rfl

/-- The widened weights: the columns in the kernel's order, then zeros. -/
def wRep (w : FVec Ideal S1x1024x3144 .f32) : FVec Ideal S1024x3200 .bf16 :=
  truncf .bf16 (concatenate S1024x3200 1 [⟨S1024x2048, (extractStridedSlice S1024x2048 ![0, 0] (shapeCast S1024x3144 w shapeCasts_S1x1024x3144_S1024x3144) slices_S1024x3144_S1024x2048_0_0 : FVec Ideal S1024x2048 .f32)⟩,
   ⟨S1024x1024, (extractStridedSlice S1024x1024 ![0, 2120] (shapeCast S1024x3144 w shapeCasts_S1x1024x3144_S1024x3144) slices_S1024x3144_S1024x1024_0_2120 : FVec Ideal S1024x1024 .f32)⟩,
   ⟨S1024x72, (extractStridedSlice S1024x72 ![0, 2048] (shapeCast S1024x3144 w shapeCasts_S1x1024x3144_S1024x3144) slices_S1024x3144_S1024x72_0_2048 : FVec Ideal S1024x72 .f32)⟩,
   ⟨S1024x56, (broadcastInDim S1024x56 ![] bcast_S_S1024x56 (constant S_ .f32 0x00000000#32) : FVec Ideal S1024x56 .f32)⟩] concatenates_S1024x2048_S1024x1024_S1024x72_S1024x56_S1024x3200_d1) bitsLt_bf16_f32
/-- The weights at entry. -/
theorem wRep_eq : (V m c main_v6 : Vec Ideal S1024x3200 .bf16) = wRep (m ((c : Thread nD τ).loc main_arg3)) := rfl

/-- A row of the normed sequence through the widened weights. -/
theorem wRep_wide (w : FVec Ideal S1x1024x3144 .f32) (N : Fin 1024 → EReal) (f : Fin 3200) :
    (∑ k, N k * wRep w (ix2 k f)) = ProjLayer.wide (fun f => ∑ k, N k * w (ix3 0 k f)) f := by
  have e : ∀ k : Fin 1024, wRep w (ix2 k f) = ProjLayer.wide (fun f => w (ix3 0 k f)) f := fun k => by
    pointwise [wRep, ProjLayer.wide]
    by_cases h1 : f.val < 2048
    · simp only [dif_pos h1]
    · by_cases h2 : f.val < 3072
      · simp only [dif_neg h1, dif_pos h2, dif_pos (show f.val - 2048 < 1024 by omega)]
        congr 2; simp only [Fin.mk.injEq]; omega
      · by_cases h3 : f.val < 3144
        · simp only [dif_neg h1, dif_neg h2, dif_neg (show ¬ f.val - 2048 < 1024 by omega), dif_pos h3, dif_pos (show f.val - 2048 - 1024 < 72 by omega)]
          congr 2; simp only [Fin.mk.injEq]; omega
        · simp only [dif_neg h1, dif_neg h2, dif_neg (show ¬ f.val - 2048 < 1024 by omega), dif_neg h3, dif_neg (show ¬ f.val - 2048 - 1024 < 72 by omega)]
  simp only [e]
  unfold ProjLayer.wide
  split_ifs <;> simp

/-- The meta rows at entry, behind 240 zero rows. -/
theorem meta_apply (k : Fin 256) (f : Fin 1024) : (V m c main_v8 : Vec Ideal S256x1024 .f32) (ix2 k f)
    = if h : k.val < 240 then (0 : EReal) else ((m ((c : Thread nD τ).loc main_arg1) : FVec Ideal S16x1024 .f32) (ix2 ⟨k.val - 240, by omega⟩ f) : EReal) := by
  entry_read; pointwise []
/-- The convolution taps at entry. -/
theorem taps_apply (k : Fin 31) (f : Fin 512) : (V m c main_v89 : Vec Ideal S31x512 .f32) (ix2 k f) = (m ((c : Thread nD τ).loc main_arg4) : FVec Ideal S1x31x512 .f32) (ix3 0 k f) := by
  entry_read; pointwise []

end Cert.ProjIdeal.Value
end
-- ==== Proof.Proj.Blocks.lean ====
/- The projection kernel's blocks at a grid step, and the product of the step's rows. -/
module

public import proofs.«01_k».proof.Proof.Gen.ProjIdeal.Value
public import proofs.«01_k».proof.Proof.Proj.Pay
public import proofs.«01_k».proof.Proof.Proj.Tables
public import Idealize.ShloMosaic.Lib.Pipeline.ValueKit
public import Idealize.ShloMosaic.Lib.Pointwise

@[expose] public section
set_option maxRecDepth 16384

noncomputable section
open Idealize.ShloMosaic Idealize.ShloMosaic.TcCoe Idealize.SL.Sem
open Idealize.ShloMosaic.Pipeline (Dat)
namespace Cert.ProjIdeal.Value
open Cert.ProjIdeal Cert.ProjIdeal.Gen

variable (m : (ℓ : Loc nD τ sig) → Buf (Elt Ideal) ℓ)

/-- The index maps of the windows at each grid step: batch `t / 33`, block `t % 33` of the padded rows. -/
theorem idx : ∀ t : Fin cfg0.N, win0_0.index t = ![t.val / 33, t.val % 33 - 1, 0] ∧ win0_1.index t = ![0, 0] ∧ win0_2.index t = ![0, 0] ∧ win0_3.index t = ![0, 0]
    ∧ win0_4.index t = ![0, t.val % 33, 0] ∧ win0_5.index t = ![0, t.val % 33, 0]
    ∧ win0_6.index t = ![0, 0] ∧ win0_7.index t = ![0, 0] ∧ win0_8.index t = ![0, 0] ∧ win0_9.index t = ![0, 0]
    ∧ win0_10.index t = ![t.val / 33, t.val % 33 - 1, 0] ∧ win0_11.index t = ![t.val / 33, t.val % 33 - 1, 0]
    ∧ win0_12.index t = ![t.val / 33, t.val % 33 - 1, 0] ∧ win0_13.index t = ![t.val / 33, t.val % 33 - 1, 0]
    ∧ win0_14.index t = ![t.val / 33, t.val % 33, 0] ∧ win0_15.index t = ![t.val / 33, t.val % 33, 0]
    ∧ win0_16.index t = ![t.val / 33, t.val % 33, 0] ∧ win0_17.index t = ![t.val / 33, t.val % 33, 0] :=
  (by decide +kernel : ∀ t : Fin grid0.N, _)
/-- The second grid coordinate. -/
theorem coord1 : ∀ t : Fin cfg0.N, (grid0.coords t 1).val = t.val % 33 := (by decide +kernel : ∀ t : Fin grid0.N, _)
/-- There are 132 grid steps. -/
theorem lt_N (t : Fin cfg0.N) : t.val < 132 := lt_of_lt_of_eq t.isLt (by decide +kernel : grid0.N = 132)
/-- The batch of a grid step. -/
def bat (t : Fin cfg0.N) : Fin 4 := ⟨t.val / 33, by have := lt_N t; omega⟩
/-- The padded row of a block's row. -/
def prow (t : Fin cfg0.N) (r : Fin 256) : Fin 8448 := ⟨t.val % 33 * 256 + r.val, by omega⟩

section reads
variable (c : Dev nD) (t : Fin cfg0.N)

/-- Argument 0 is unchanged when the kernel starts. -/
theorem entry0_eq : V m c main_arg0 = m ((c : Thread nD τ).loc main_arg0) := by entry_read; rfl
/-- Argument 2 is unchanged when the kernel starts. -/
theorem entry2_eq : V m c main_arg2 = m ((c : Thread nD τ).loc main_arg2) := by entry_read; rfl
/-- Argument 5 is unchanged when the kernel starts. -/
theorem entry5_eq : V m c main_arg5 = m ((c : Thread nD τ).loc main_arg5) := by entry_read; rfl
/-- Argument 6 is unchanged when the kernel starts. -/
theorem entry6_eq : V m c main_arg6 = m ((c : Thread nD τ).loc main_arg6) := by entry_read; rfl
/-- Argument 7 is unchanged when the kernel starts. -/
theorem entry7_eq : V m c main_arg7 = m ((c : Thread nD τ).loc main_arg7) := by entry_read; rfl

/-- The block of operand 1 is its whole array at every step. -/
theorem iblk1 : iblk m c 1 t = V m c main_v8 := by
  unfold iblk
  generalize V m c = Z
  blk_ext! [idx t]
/-- The block of operand 2 is its whole array at every step. -/
theorem iblk2 : iblk m c 2 t = m ((c : Thread nD τ).loc main_arg2) := by
  rw [← entry2_eq m c]
  unfold iblk
  generalize V m c = Z
  blk_ext! [idx t]
/-- The block of operand 3 is its whole array at every step. -/
theorem iblk3 : iblk m c 3 t = V m c main_v6 := by
  unfold iblk
  generalize V m c = Z
  blk_ext! [idx t]
/-- The block of operand 6 is its whole array at every step. -/
theorem iblk6 : iblk m c 6 t = V m c main_v89 := by
  unfold iblk
  generalize V m c = Z
  blk_ext! [idx t]
/-- The block of operand 7 is its whole array at every step. -/
theorem iblk7 : iblk m c 7 t = m ((c : Thread nD τ).loc main_arg5) := by
  rw [← entry5_eq m c]
  unfold iblk
  generalize V m c = Z
  blk_ext! [idx t]
/-- The block of operand 8 is its whole array at every step. -/
theorem iblk8 : iblk m c 8 t = m ((c : Thread nD τ).loc main_arg6) := by
  rw [← entry6_eq m c]
  unfold iblk
  generalize V m c = Z
  blk_ext! [idx t]
/-- The block of operand 9 is its whole array at every step. -/
theorem iblk9 : iblk m c 9 t = m ((c : Thread nD τ).loc main_arg7) := by
  rw [← entry7_eq m c]
  unfold iblk
  generalize V m c = Z
  blk_ext! [idx t]
/-- The input's block: 256 rows of the step's batch, the first block read again at the second step. -/
theorem iblk0 (r : Fin 256) (k : Fin 1024) : (iblk m c 0 t : Vec Ideal S1x256x1024 .f32) (ix3 0 r k)
    = (m ((c : Thread nD τ).loc main_arg0) : FVec Ideal S4x8192x1024 .f32) (ix3 (bat t) ⟨(t.val % 33 - 1) * 256 + r.val, by omega⟩ k) := by
  rw [← entry0_eq m c]
  unfold iblk
  generalize V m c = Z
  blk_ext [idx t, bat]
/-- The block of the attention heads' rotary factors: the factors of the step's padded rows. -/
theorem iblk4 (a : Fin 3) (r : Fin 256) (l : Fin 128) : (iblk m c 4 t : Vec Ideal S3x256x128 .f32) (ix3 a r l) = tabQ (ix3 a (prow t r) l) := by
  rw [← tabQ_eq m c]
  unfold iblk
  generalize V m c = Z
  blk_ext [idx t, prow]
/-- The block of the indexer heads' rotary factors: the factors of the step's padded rows. -/
theorem iblk5 (a : Fin 3) (r : Fin 256) (l : Fin 128) : (iblk m c 5 t : Vec Ideal S3x256x128 .f32) (ix3 a r l) = tabI (ix3 a (prow t r) l) := by
  rw [← tabI_eq m c]
  unfold iblk
  generalize V m c = Z
  blk_ext [idx t, prow]

/-- The projections of the padded rows of one batch. -/
abbrev rowsOf (b : Fin 4) : Fin 8448 → Fin 3144 → EReal :=
  ProjLayer.rows (fun s e => (m ((c : Thread nD τ).loc main_arg0) : FVec Ideal S4x8192x1024 .f32) (ix3 b s e))
    (fun s e => (m ((c : Thread nD τ).loc main_arg1) : FVec Ideal S16x1024 .f32) (ix2 s e)) (fun e => (m ((c : Thread nD τ).loc main_arg2) : FVec Ideal S1x1024 .f32) (ix2 0 e))
    (fun e f => (m ((c : Thread nD τ).loc main_arg3) : FVec Ideal S1x1024x3144 .f32) (ix3 0 e f))

/-- The product's rows are the widened projections. -/
theorem prod_apply (r : Fin 256) (f : Fin 3200) : k0_pay2 (grid0.coords t) (iblk m c 1 t) (iblk m c 0 t) (iblk m c 2 t) (iblk m c 3 t) (ix2 r f)
    = ProjLayer.wide (rowsOf m c (bat t) (prow t r)) f := by
  refine (pay2 (grid0.coords t) (iblk m c 1 t) (iblk m c 0 t) (iblk m c 2 t) (iblk m c 3 t) r f (ProjLayer.hAt
    (fun s e => (m ((c : Thread nD τ).loc main_arg0) : FVec Ideal S4x8192x1024 .f32) (ix3 (bat t) s e))
    (fun s e => (m ((c : Thread nD τ).loc main_arg1) : FVec Ideal S16x1024 .f32) (ix2 s e)) (prow t r)) ?_).trans ?_
  · intro k
    rw [coord1, iblk0, iblk1, meta_apply]
    unfold ProjLayer.hAt prow
    by_cases h : t.val % 33 = 0
    · simp only [h, if_true, Nat.zero_mul, Nat.zero_add, dif_pos r.isLt]
      by_cases h1 : r.val < 240
      · simp only [dif_pos h1, if_pos h1]
      · simp only [dif_neg h1, if_neg h1]
    · simp only [h, if_false, if_neg (show ¬ t.val % 33 * 256 + r.val < 240 by omega), dif_neg (show ¬ t.val % 33 * 256 + r.val < 256 by omega)]
      congr 2; simp only [Fin.mk.injEq]; omega
  · rw [iblk3, wRep_eq, iblk2]
    exact wRep_wide _ _ f
end reads

section slabs
variable (c : Dev nD) (t : Fin cfg0.N) (r : Fin 256) (l : Fin 128)

/-- The product of a step's rows. -/
abbrev prod : FVec Ideal S256x3200 .f32 := k0_pay2 (grid0.coords t) (iblk m c 1 t) (iblk m c 0 t) (iblk m c 2 t) (iblk m c 3 t)
/-- The rotary factors loaded at a step. -/
abbrev q0 : FVec Ideal S256x128 .f32 := k0_pay3 (View.ld (iblk m c 4 t) (Rect.unit ![0, 0, 0] ![1, 256, 128] inb_S3x256x128_S1x256x128_0_0_0))
/-- The rotary factor loaded at a step: the lane below, attention heads. -/
abbrev q1 : FVec Ideal S256x128 .f32 := k0_pay4 (View.ld (iblk m c 4 t) (Rect.unit ![1, 0, 0] ![1, 256, 128] inb_S3x256x128_S1x256x128_1_0_0))
/-- The rotary factor loaded at a step: the lane above, attention heads. -/
abbrev q2 : FVec Ideal S256x128 .f32 := k0_pay5 (View.ld (iblk m c 4 t) (Rect.unit ![2, 0, 0] ![1, 256, 128] inb_S3x256x128_S1x256x128_2_0_0))
/-- The rotary factor loaded at a step: the lane itself, indexer heads. -/
abbrev i0 : FVec Ideal S256x128 .f32 := k0_pay6 (View.ld (iblk m c 5 t) (Rect.unit ![0, 0, 0] ![1, 256, 128] inb_S3x256x128_S1x256x128_0_0_0))
/-- The rotary factor loaded at a step: the lane below, indexer heads. -/
abbrev i1 : FVec Ideal S256x128 .f32 := k0_pay7 (View.ld (iblk m c 5 t) (Rect.unit ![1, 0, 0] ![1, 256, 128] inb_S3x256x128_S1x256x128_1_0_0))
/-- The rotary factor loaded at a step: the lane above, indexer heads. -/
abbrev i2 : FVec Ideal S256x128 .f32 := k0_pay8 (View.ld (iblk m c 5 t) (Rect.unit ![2, 0, 0] ![1, 256, 128] inb_S3x256x128_S1x256x128_2_0_0))

/-- The three planes of a block of rotary factors, as the kernel loads them. -/
theorem fac (T : Vec Ideal S3x256x128 .f32) :
    k0_pay3 (View.ld T (Rect.unit ![0, 0, 0] ![1, 256, 128] inb_S3x256x128_S1x256x128_0_0_0)) (ix2 r l) = T (ix3 0 r l)
    ∧ k0_pay4 (View.ld T (Rect.unit ![1, 0, 0] ![1, 256, 128] inb_S3x256x128_S1x256x128_1_0_0)) (ix2 r l) = T (ix3 1 r l)
    ∧ k0_pay5 (View.ld T (Rect.unit ![2, 0, 0] ![1, 256, 128] inb_S3x256x128_S1x256x128_2_0_0)) (ix2 r l) = T (ix3 2 r l)
    ∧ k0_pay6 (View.ld T (Rect.unit ![0, 0, 0] ![1, 256, 128] inb_S3x256x128_S1x256x128_0_0_0)) (ix2 r l) = T (ix3 0 r l)
    ∧ k0_pay7 (View.ld T (Rect.unit ![1, 0, 0] ![1, 256, 128] inb_S3x256x128_S1x256x128_1_0_0)) (ix2 r l) = T (ix3 1 r l)
    ∧ k0_pay8 (View.ld T (Rect.unit ![2, 0, 0] ![1, 256, 128] inb_S3x256x128_S1x256x128_2_0_0)) (ix2 r l) = T (ix3 2 r l) := by
  refine ⟨?_, ?_, ?_, ?_, ?_, ?_⟩
  · pointwise [k0_pay3]
  · pointwise [k0_pay4]
  · pointwise [k0_pay5]
  · pointwise [k0_pay6]
  · pointwise [k0_pay7]
  · pointwise [k0_pay8]

/-- The leading zero rows have zero projections. -/
theorem rows0 (h : (prow t r).val < 240) : rowsOf m c (bat t) (prow t r) = fun _ => 0 := ProjLayer.rows_zero _ _ _ _ _ h

/-- The attention heads' loaded factors are the table's at the padded row. -/
theorem q_val : q0 m c t (ix2 r l) = tabQ (ix3 0 (prow t r) l) ∧ q1 m c t (ix2 r l) = tabQ (ix3 1 (prow t r) l) ∧ q2 m c t (ix2 r l) = tabQ (ix3 2 (prow t r) l) :=
  have f := fac r l (iblk m c 4 t)
  ⟨f.1.trans (iblk4 m c t 0 r l), f.2.1.trans (iblk4 m c t 1 r l), f.2.2.1.trans (iblk4 m c t 2 r l)⟩
/-- The indexer heads' loaded factors are the table's at the padded row. -/
theorem i_val : i0 m c t (ix2 r l) = tabI (ix3 0 (prow t r) l) ∧ i1 m c t (ix2 r l) = tabI (ix3 1 (prow t r) l) ∧ i2 m c t (ix2 r l) = tabI (ix3 2 (prow t r) l) :=
  have f := fac r l (iblk m c 5 t)
  ⟨f.2.2.2.1.trans (iblk5 m c t 0 r l), f.2.2.2.2.1.trans (iblk5 m c t 1 r l), f.2.2.2.2.2.trans (iblk5 m c t 2 r l)⟩

/-- A query or key head at a step. -/
theorem head_val (base hd : ℕ) (hb : base + 512 ≤ 2048) (h4 : hd < 4) :
    sl 16 (prod m c t) (base + hd * 128) (by omega) (q0 m c t) (q1 m c t) (q2 m c t) r l
    = ProjLayer.headRope base (by omega) (rowsOf m c (bat t) (prow t r)) ((prow t r).val - 240) ⟨hd * 128 + l.val, by omega⟩ := by
  have e : (fun f => prod m c t (ix2 r f)) = ProjLayer.wide (rowsOf m c (bat t) (prow t r)) := funext fun f => prod_apply m c t r f
  have z := rows0 m c t r
  obtain ⟨f0, f1, f2⟩ := q_val m c t r l
  generalize prod m c t = A at e ⊢
  generalize rowsOf m c (bat t) (prow t r) = P at e z ⊢
  generalize q0 m c t = B0 at f0 ⊢
  generalize q1 m c t = B1 at f1 ⊢
  generalize q2 m c t = B2 at f2 ⊢
  unfold sl
  rw [e]
  exact ProjLayer.slab_head P (prow t r).val z (fun l => B0 (ix2 r l)) (fun l => B1 (ix2 r l)) (fun l => B2 (ix2 r l)) l
    (fun h => f0.trans (tabQ_apply0 _ l h)) (fun h => f1.trans (tabQ_apply1 _ l h)) (fun h => f2.trans (tabQ_apply2 _ l h)) base hd hb h4
/-- Two indexer query heads at a step. -/
theorem index_val (hd : ℕ) (h4 : hd < 4) :
    sl 8 (prod m c t) (1536 + hd * 128) (by omega) (i0 m c t) (i1 m c t) (i2 m c t) r l
    = ProjLayer.indexRope (rowsOf m c (bat t) (prow t r)) ((prow t r).val - 240) ⟨hd * 128 + l.val, by omega⟩ := by
  have e : (fun f => prod m c t (ix2 r f)) = ProjLayer.wide (rowsOf m c (bat t) (prow t r)) := funext fun f => prod_apply m c t r f
  have z := rows0 m c t r
  obtain ⟨f0, f1, f2⟩ := i_val m c t r l
  generalize prod m c t = A at e ⊢
  generalize rowsOf m c (bat t) (prow t r) = P at e z ⊢
  generalize i0 m c t = B0 at f0 ⊢
  generalize i1 m c t = B1 at f1 ⊢
  generalize i2 m c t = B2 at f2 ⊢
  unfold sl
  rw [e]
  exact ProjLayer.slab_index P (prow t r).val z (fun l => B0 (ix2 r l)) (fun l => B1 (ix2 r l)) (fun l => B2 (ix2 r l)) l
    (fun h => f0.trans (tabI_apply0 _ l h)) (fun h => f1.trans (tabI_apply1 _ l h)) (fun h => f2.trans (tabI_apply2 _ l h)) hd h4
/-- The indexer key at a step. -/
theorem key_val (hl : l.val < 64) : k0_pay32 (prod m c t) (i0 m c t) (i1 m c t) (i2 m c t) (ix2 r l)
    = ProjLayer.keyRope (rowsOf m c (bat t) (prow t r)) ((prow t r).val - 240) ⟨l.val, hl⟩ := by
  have e : (fun f => prod m c t (ix2 r f)) = ProjLayer.wide (rowsOf m c (bat t) (prow t r)) := funext fun f => prod_apply m c t r f
  have z := rows0 m c t r
  obtain ⟨f0, f1, f2⟩ := i_val m c t r l
  generalize prod m c t = A at e ⊢
  generalize rowsOf m c (bat t) (prow t r) = P at e z ⊢
  generalize i0 m c t = B0 at f0 ⊢
  generalize i1 m c t = B1 at f1 ⊢
  generalize i2 m c t = B2 at f2 ⊢
  refine (pay32 _ _ _ _ r l hl).trans ?_
  unfold sl
  rw [e]
  exact ProjLayer.slab_key P (prow t r).val z (fun l => B0 (ix2 r l)) (fun l => B1 (ix2 r l)) (fun l => B2 (ix2 r l)) l hl
    (fun h => f0.trans (tabI_apply0 _ l h)) (fun h => f1.trans (tabI_apply1 _ l h)) (fun h => f2.trans (tabI_apply2 _ l h))
end slabs

end Cert.ProjIdeal.Value
end
-- ==== Proof.Proj.Kernel.lean ====
/- What the projection kernel computes: its eight results as the functions of `ProjLayer`. -/
module

public import proofs.«01_k».proof.Proof.Gen.ProjIdeal.Value
public import proofs.«01_k».proof.Proof.Gen.Proj.Frame
public import proofs.«01_k».proof.Proof.Proj.Blocks
public import Idealize.ShloMosaic.Lib.Pipeline.ValueKit
public import Idealize.ShloMosaic.Lib.Pointwise

@[expose] public section
set_option maxRecDepth 16384
set_option maxHeartbeats 2000000

noncomputable section
open Idealize.ShloMosaic Idealize.ShloMosaic.TcCoe Idealize.SL.Sem
open Idealize.ShloMosaic.Pipeline (Dat)
namespace Cert.ProjIdeal.Value
open Cert.ProjIdeal Cert.ProjIdeal.Gen

variable (m : (ℓ : Loc nD τ sig) → Buf (Elt Ideal) ℓ)

/-- A block stored as four slabs of 128 lanes is one array when each slab is its part. -/
theorem slabs (a0 a1 a2 a3 : Vec Ideal S1x256x128 .bf16) (T : Fin 256 → Fin 512 → EReal)
    (e0 : ∀ r (l : Fin 128), a0 (ix3 0 r l) = T r ⟨0 * 128 + l.val, by omega⟩) (e1 : ∀ r (l : Fin 128), a1 (ix3 0 r l) = T r ⟨1 * 128 + l.val, by omega⟩)
    (e2 : ∀ r (l : Fin 128), a2 (ix3 0 r l) = T r ⟨2 * 128 + l.val, by omega⟩) (e3 : ∀ r (l : Fin 128), a3 (ix3 0 r l) = T r ⟨3 * 128 + l.val, by omega⟩) (y : S1x256x512.Idx) :
    View.canon [⟨Rect.unit ![0, 0, 384] ![1, 256, 128] inb_S1x256x512_S1x256x128_0_0_384, a3⟩, ⟨Rect.unit ![0, 0, 256] ![1, 256, 128] inb_S1x256x512_S1x256x128_0_0_256, a2⟩,
      ⟨Rect.unit ![0, 0, 128] ![1, 256, 128] inb_S1x256x512_S1x256x128_0_0_128, a1⟩, ⟨Rect.unit ![0, 0, 0] ![1, 256, 128] inb_S1x256x512_S1x256x128_0_0_0, a0⟩] y = T (y 1) (y 2) := by
  canon_tiles x h
  all_goals
    idx_vars x
    obtain rfl : x0 = 0 := Subsingleton.elim _ _
  · exact (e3 x1 x2).trans (congrArg₂ T (Fin.ext h1.symm) (Fin.ext (by rw [h2])))
  · exact (e2 x1 x2).trans (congrArg₂ T (Fin.ext h1.symm) (Fin.ext (by rw [h2])))
  · exact (e1 x1 x2).trans (congrArg₂ T (Fin.ext h1.symm) (Fin.ext (by rw [h2])))
  · exact (e0 x1 x2).trans (congrArg₂ T (Fin.ext h1.symm) (Fin.ext (by rw [h2]; show 0 * 128 + x2.val = x2.val; omega)))

/-- The output position of a block's row, past the first block of a batch. -/
def srow (t : Fin cfg0.N) (r : Fin 256) : Fin 8192 := ⟨(t.val % 33 - 1) * 256 + r.val, by omega⟩
/-- An output position is 256 behind its padded row. -/
theorem srow_val {t : Fin cfg0.N} (h : ¬t.val % 33 = 0) (r : Fin 256) : (srow t r).val + 256 = (prow t r).val := by
  show (t.val % 33 - 1) * 256 + r.val + 256 = t.val % 33 * 256 + r.val
  omega
/-- The padded row of an output position. -/
theorem srow_row {t : Fin cfg0.N} (h : ¬t.val % 33 = 0) (r : Fin 256) (q : (srow t r).val + 256 < 8448) : (⟨(srow t r).val + 256, q⟩ : Fin 8448) = prow t r := Fin.ext (srow_val h r)
/-- The position, counted from the first meta row, of an output row. -/
theorem srow_pos {t : Fin cfg0.N} (h : ¬t.val % 33 = 0) (r : Fin 256) : (srow t r).val + 16 = (prow t r).val - 240 := by have := srow_val h r; omega

section rows
variable (c : Dev nD) (t : Fin cfg0.N) (P : Fin 8448 → Fin 3144 → EReal) (hB : ¬t.val % 33 = 0) (r : Fin 256)
/-- The widened product's first 2048 columns are the weights' first 2048. -/
theorem wide_lo (P : Fin 3144 → EReal) (f : Fin 3200) (h : f.val < 2048) : ProjLayer.wide P f = P ⟨f.val, by omega⟩ := dif_pos h
include hB in
/-- The queries of a row, by its padded row. -/
theorem q_row (f : Fin 512) : ProjLayer.qOut P (srow t r) f = ProjLayer.headRope 0 (by omega) (P (prow t r)) ((prow t r).val - 240) f * Ideal.ofBits FTy.f32 1035273459#32 := by
  unfold ProjLayer.qOut
  rw [srow_row hB, srow_pos hB]
include hB in
/-- The indexer queries of a row, by its padded row. -/
theorem iq_row (f : Fin 512) : ProjLayer.iqOut P (srow t r) f = ProjLayer.indexRope (P (prow t r)) ((prow t r).val - 240) f * Ideal.ofBits FTy.f32 1040187392#32 := by
  unfold ProjLayer.iqOut
  rw [srow_row hB, srow_pos hB]
/-- The indexer keys a step stores in the low lanes. -/
theorem lo_val (l : Fin 128) : k0_pay34 (prod m c t) (i0 m c t) (i1 m c t) (i2 m c t) (ix2 r l) = ProjLayer.ikaOut (rowsOf m c (bat t)) (prow t r) l := by
  rw [pay34]
  unfold ProjLayer.ikaOut
  by_cases h : l.val < 64
  · rw [if_pos h, dif_pos h]; exact key_val m c t r l h
  · rw [if_neg h, dif_neg h]
/-- The indexer keys a step stores in the high lanes. -/
theorem hi_val (l : Fin 128) : k0_pay34 (prod m c t) (i0 m c t) (i1 m c t) (i2 m c t) (ix2 r ⟨(l.val + 128 - 64) % 128, by omega⟩)
    = ProjLayer.ikbOut (rowsOf m c (bat t)) (prow t r) l := by
  rw [lo_val]
  unfold ProjLayer.ikbOut ProjLayer.ikaOut
  by_cases h : l.val < 64
  · rw [dif_pos h, dif_neg (show ¬(l.val + 128 - 64) % 128 < 64 by omega)]
  · rw [dif_neg h, dif_pos (show (l.val + 128 - 64) % 128 < 64 by omega)]
    exact congrArg _ (Fin.ext (show (l.val + 128 - 64) % 128 = l.val - 64 by omega))
include hB in
/-- The indexer key and weights a step stores. -/
theorem misc_val (l : Fin 128) : (if l.val < 64 then k0_pay32 (prod m c t) (i0 m c t) (i1 m c t) (i2 m c t) (ix2 r l)
    else prod m c t (ix2 r ⟨3072 + l.val, by omega⟩) * Ideal.ofBits FTy.f32 1052050675#32) = ProjLayer.miscOut (rowsOf m c (bat t)) (srow t r) l := by
  unfold ProjLayer.miscOut
  rw [srow_row hB, srow_pos hB]
  by_cases h : l.val < 64
  · rw [if_pos h, dif_pos h]; exact key_val m c t r l h
  · rw [if_neg h, dif_neg h]
    refine (congrArg (· * _) (prod_apply m c t r ⟨3072 + l.val, by omega⟩)).trans ?_
    show _ * _ = _
    unfold ProjLayer.wide
    rw [dif_neg (show ¬3072 + l.val < 2048 by omega), dif_neg (show ¬3072 + l.val < 3072 by omega)]
    by_cases h2 : l.val < 72
    · rw [dif_pos h2, dif_pos (show 3072 + l.val < 3144 by omega)]
      congr 2
      exact Fin.ext (show 3072 + l.val - 1024 = 2112 + (l.val - 64) by omega)
    · rw [dif_neg h2, dif_neg (show ¬3072 + l.val < 3144 by omega), zero_mul]
end rows

/-- The queries, as one function of the arguments. -/
def qArr (c : Dev nD) : FVec Ideal S4x8192x512 .bf16 := fun i => ProjLayer.qOut (rowsOf m c (i 0)) (i 1) (i 2)
/-- After the whole grid result 0 holds the queries. -/
theorem final10 (c : Dev nD) : (dats m 0 c).arrAt 10 (cfgs 0).N = qArr m c := by
  refine (dats m 0 c).arrAt_eq_of_covers 10 _ (by decide +kernel) fun t hf y => ?_
  have hB : ¬t.val % 33 = 0 := (by decide +kernel : ∀ t : Fin cfg0.N, (cfg0.win 10).flush t = true → ¬t.val % 33 = 0) t hf
  blk_simp
  rw [after0_10]
  have e : ((View.whole main_v90_0).slice (win0_10.rect t)).emb y = ix3 (bat t) (srow t (y 1)) (y 2) := by
    idx_vars y
    blk_ext [idx t, bat, srow]
  rw [e]
  rw [outsAt0_B m c t hB]
  frame_out
  refine slabs _ _ _ _ (fun r f => ProjLayer.qOut (rowsOf m c (bat t)) (srow t r) f) ?_ ?_ ?_ ?_ y
  · exact fun r l => ((pay9 _ _ _ _ r l).trans (congrArg (· * _) (head_val m c t r l 0 0 (by omega) (by omega)))).trans (q_row t _ hB r _).symm
  · exact fun r l => ((pay14 _ _ _ _ r l).trans (congrArg (· * _) (head_val m c t r l 0 1 (by omega) (by omega)))).trans (q_row t _ hB r _).symm
  · exact fun r l => ((pay19 _ _ _ _ r l).trans (congrArg (· * _) (head_val m c t r l 0 2 (by omega) (by omega)))).trans (q_row t _ hB r _).symm
  · exact fun r l => ((pay24 _ _ _ _ r l).trans (congrArg (· * _) (head_val m c t r l 0 3 (by omega) (by omega)))).trans (q_row t _ hB r _).symm

/-- The indexer queries, as one function of the arguments. -/
def iqArr (c : Dev nD) : FVec Ideal S4x8192x512 .bf16 := fun i => ProjLayer.iqOut (rowsOf m c (i 0)) (i 1) (i 2)
/-- After the whole grid result 1 holds the indexer queries. -/
theorem final11 (c : Dev nD) : (dats m 0 c).arrAt 11 (cfgs 0).N = iqArr m c := by
  refine (dats m 0 c).arrAt_eq_of_covers 11 _ (by decide +kernel) fun t hf y => ?_
  have hB : ¬t.val % 33 = 0 := (by decide +kernel : ∀ t : Fin cfg0.N, (cfg0.win 11).flush t = true → ¬t.val % 33 = 0) t hf
  blk_simp
  rw [after0_11]
  have e : ((View.whole main_v90_1).slice (win0_11.rect t)).emb y = ix3 (bat t) (srow t (y 1)) (y 2) := by
    idx_vars y
    blk_ext [idx t, bat, srow]
  rw [e]
  rw [outsAt0_B m c t hB]
  frame_out
  refine slabs _ _ _ _ (fun r f => ProjLayer.iqOut (rowsOf m c (bat t)) (srow t r) f) ?_ ?_ ?_ ?_ y
  · exact fun r l => ((pay13 _ _ _ _ r l).trans (congrArg (· * _) (index_val m c t r l 0 (by omega)))).trans (iq_row t _ hB r _).symm
  · exact fun r l => ((pay18 _ _ _ _ r l).trans (congrArg (· * _) (index_val m c t r l 1 (by omega)))).trans (iq_row t _ hB r _).symm
  · exact fun r l => ((pay23 _ _ _ _ r l).trans (congrArg (· * _) (index_val m c t r l 2 (by omega)))).trans (iq_row t _ hB r _).symm
  · exact fun r l => ((pay28 _ _ _ _ r l).trans (congrArg (· * _) (index_val m c t r l 3 (by omega)))).trans (iq_row t _ hB r _).symm

/-- The indexer key and weights, as one function of the arguments. -/
def miscArr (c : Dev nD) : FVec Ideal S4x8192x128 .f32 := fun i => ProjLayer.miscOut (rowsOf m c (i 0)) (i 1) (i 2)
/-- After the whole grid result 2 holds the indexer key and weights. -/
theorem final12 (c : Dev nD) : (dats m 0 c).arrAt 12 (cfgs 0).N = miscArr m c := by
  refine (dats m 0 c).arrAt_eq_of_covers 12 _ (by decide +kernel) fun t hf y => ?_
  idx_vars y
  obtain rfl : y0 = 0 := Subsingleton.elim _ _
  have hB : ¬t.val % 33 = 0 := (by decide +kernel : ∀ t : Fin cfg0.N, (cfg0.win 12).flush t = true → ¬t.val % 33 = 0) t hf
  blk_simp
  rw [after0_12]
  have e : ((View.whole main_v90_2).slice (win0_12.rect t)).emb (ix3 0 y1 y2) = ix3 (bat t) (srow t y1) y2 := by
    blk_ext [idx t, bat, srow]
  rw [e]
  rw [outsAt0_B m c t hB]
  frame_out
  exact (pay33 _ _ _ _ y1 y2).trans (misc_val m c t hB y1 y2)

/-- The keys, as one function of the arguments. -/
def kArr (c : Dev nD) : FVec Ideal S4x8448x512 .bf16 := fun i => ProjLayer.kOut (rowsOf m c (i 0)) (i 1) (i 2)
/-- After the whole grid result 4 holds the keys. -/
theorem final14 (c : Dev nD) : (dats m 0 c).arrAt 14 (cfgs 0).N = kArr m c := by
  refine (dats m 0 c).arrAt_eq_of_covers 14 _ (by decide +kernel) fun t hf y => ?_
  blk_simp
  rw [after0_14]
  have e : ((View.whole main_v90_4).slice (win0_14.rect t)).emb y = ix3 (bat t) (prow t (y 1)) (y 2) := by
    idx_vars y
    blk_ext [idx t, bat, prow]
  rw [e]
  by_cases hA : t.val % 33 = 0
  · rw [outsAt0_A m c t hA]
    frame_out
    refine slabs _ _ _ _ (fun r f => ProjLayer.kOut (rowsOf m c (bat t)) (prow t r) f) ?_ ?_ ?_ ?_ y
    · exact fun r l => (pay10 _ _ _ _ r l).trans (head_val m c t r l 512 0 (by omega) (by omega))
    · exact fun r l => (pay15 _ _ _ _ r l).trans (head_val m c t r l 512 1 (by omega) (by omega))
    · exact fun r l => (pay20 _ _ _ _ r l).trans (head_val m c t r l 512 2 (by omega) (by omega))
    · exact fun r l => (pay25 _ _ _ _ r l).trans (head_val m c t r l 512 3 (by omega) (by omega))
  · rw [outsAt0_B m c t hA]
    frame_out
    refine slabs _ _ _ _ (fun r f => ProjLayer.kOut (rowsOf m c (bat t)) (prow t r) f) ?_ ?_ ?_ ?_ y
    · exact fun r l => (pay10 _ _ _ _ r l).trans (head_val m c t r l 512 0 (by omega) (by omega))
    · exact fun r l => (pay15 _ _ _ _ r l).trans (head_val m c t r l 512 1 (by omega) (by omega))
    · exact fun r l => (pay20 _ _ _ _ r l).trans (head_val m c t r l 512 2 (by omega) (by omega))
    · exact fun r l => (pay25 _ _ _ _ r l).trans (head_val m c t r l 512 3 (by omega) (by omega))

/-- The values, as one function of the arguments. -/
def vArr (c : Dev nD) : FVec Ideal S4x8448x512 .bf16 := fun i => ProjLayer.vOut (rowsOf m c (i 0)) (i 1) (i 2)
/-- After the whole grid result 5 holds the values. -/
theorem final15 (c : Dev nD) : (dats m 0 c).arrAt 15 (cfgs 0).N = vArr m c := by
  refine (dats m 0 c).arrAt_eq_of_covers 15 _ (by decide +kernel) fun t hf y => ?_
  idx_vars y
  obtain rfl : y0 = 0 := Subsingleton.elim _ _
  blk_simp
  rw [after0_15]
  have e : ((View.whole main_v90_5).slice (win0_15.rect t)).emb (ix3 0 y1 y2) = ix3 (bat t) (prow t y1) y2 := by
    blk_ext [idx t, bat, prow]
  rw [e]
  by_cases hA : t.val % 33 = 0
  · rw [outsAt0_A m c t hA]
    frame_out
    exact (pay29 _ y1 y2).trans ((prod_apply m c t y1 _).trans (wide_lo _ _ (show 1024 + y2.val < 2048 by omega)))
  · rw [outsAt0_B m c t hA]
    frame_out
    exact (pay29 _ y1 y2).trans ((prod_apply m c t y1 _).trans (wide_lo _ _ (show 1024 + y2.val < 2048 by omega)))

/-- The indexer keys in the low lanes, as one function of the arguments. -/
def ikaArr (c : Dev nD) : FVec Ideal S4x8448x128 .bf16 := fun i => ProjLayer.ikaOut (rowsOf m c (i 0)) (i 1) (i 2)
/-- After the whole grid result 6 holds the indexer keys in the low lanes. -/
theorem final16 (c : Dev nD) : (dats m 0 c).arrAt 16 (cfgs 0).N = ikaArr m c := by
  refine (dats m 0 c).arrAt_eq_of_covers 16 _ (by decide +kernel) fun t hf y => ?_
  idx_vars y
  obtain rfl : y0 = 0 := Subsingleton.elim _ _
  blk_simp
  rw [after0_16]
  have e : ((View.whole main_v90_6).slice (win0_16.rect t)).emb (ix3 0 y1 y2) = ix3 (bat t) (prow t y1) y2 := by
    blk_ext [idx t, bat, prow]
  rw [e]
  by_cases hA : t.val % 33 = 0
  · rw [outsAt0_A m c t hA]
    frame_out
    exact (pay36 _ _ _ _ y1 y2).trans (lo_val m c t y1 y2)
  · rw [outsAt0_B m c t hA]
    frame_out
    exact (pay36 _ _ _ _ y1 y2).trans (lo_val m c t y1 y2)

/-- The indexer keys in the high lanes, as one function of the arguments. -/
def ikbArr (c : Dev nD) : FVec Ideal S4x8448x128 .bf16 := fun i => ProjLayer.ikbOut (rowsOf m c (i 0)) (i 1) (i 2)
/-- After the whole grid result 7 holds the indexer keys in the high lanes. -/
theorem final17 (c : Dev nD) : (dats m 0 c).arrAt 17 (cfgs 0).N = ikbArr m c := by
  refine (dats m 0 c).arrAt_eq_of_covers 17 _ (by decide +kernel) fun t hf y => ?_
  idx_vars y
  obtain rfl : y0 = 0 := Subsingleton.elim _ _
  blk_simp
  rw [after0_17]
  have e : ((View.whole main_v90_7).slice (win0_17.rect t)).emb (ix3 0 y1 y2) = ix3 (bat t) (prow t y1) y2 := by
    blk_ext [idx t, bat, prow]
  rw [e]
  by_cases hA : t.val % 33 = 0
  · rw [outsAt0_A m c t hA]
    frame_out
    exact (pay37 y1 y2 _).trans (hi_val m c t y1 y2)
  · rw [outsAt0_B m c t hA]
    frame_out
    exact (pay37 y1 y2 _).trans (hi_val m c t y1 y2)

end Cert.ProjIdeal.Value
end
-- ==== Proof.Proj.Conv.lean ====
/- The projection kernel's convolution branch: the gated rows of a block and of the 32 rows before it through the taps. -/
module

public import proofs.«01_k».proof.Proof.Proj.Kernel
public import Idealize.ShloMosaic.Lib.WritesUnit

@[expose] public section
set_option maxRecDepth 16384
set_option maxHeartbeats 2000000

noncomputable section
open Idealize.ShloMosaic Idealize.ShloMosaic.TcCoe Idealize.SL.Sem
open Idealize.ShloMosaic.Pipeline (Dat)
namespace Cert.ProjIdeal.Value
open Cert.ProjIdeal Cert.ProjIdeal.Gen

variable (m : (ℓ : Loc nD τ sig) → Buf (Elt Ideal) ℓ)

section reads
/-- The gated rows after the block's own are stored: the kept rows, then the block's. -/
theorem scr_read (prev : Vec Ideal S288x512 .f32) (A : Vec Ideal S256x512 .f32) (h : (Memref.whole cc0_scratch0).IsWhole) (j : Fin 288) (f : Fin 512) :
    (View.whole cc0_scratch0).read (Elt Ideal) ((View.whole cc0_scratch0).writes (Elt Ideal) (h.unread prev)
      [⟨Rect.unit ![32, 0] ![256, 512] inb_S288x512_S256x512_32_0, A⟩]) (ix2 j f)
    = if hj : j.val < 32 then prev (ix2 j f) else A (ix2 ⟨j.val - 32, by omega⟩ f) := by
  by_cases hj : j.val < 32
  · rw [dif_pos hj]
    refine (View.read_writes_cons_unit_of_not_mem _ _ _ _ _ _ rfl (0 : Fin 2) (.inl hj)).trans ?_
    exact congrFun (h.read_unread prev) _
  · rw [dif_neg hj]
    refine View.read_writes_cons_rows_of_mem (View.whole cc0_scratch0) _ _ _ _ _ (ix2 ⟨j.val - 32, by omega⟩ f) rfl ?_ rfl
    show j.val = 32 + (j.val - 32)
    omega

/-- The rows kept for the next block are the last 32 of the block's own. -/
theorem keep (A : Vec Ideal S256x512 .f32) (L L' : List (View.Piece (Elt Ideal) S288x512 .f32)) (j : Fin 288) (f : Fin 512) (hj : j.val < 32) :
    View.canon (⟨Rect.unit ![0, 0] ![32, 512] inb_S288x512_S32x512_0_0, k0_pay56 ((View.whole cc0_scratch0).readCov
      (⟨Rect.unit ![32, 0] ![256, 512] inb_S288x512_S256x512_32_0, A⟩ :: L) (Rect.unit ![256, 0] ![32, 512] inb_S288x512_S32x512_256_0).toLoadRect)⟩ :: L') (ix2 j f)
    = A (ix2 ⟨224 + j.val, by omega⟩ f) := by
  have e : (Rect.unit (s := S288x512) ![0, 0] ![32, 512] inb_S288x512_S32x512_0_0).emb (ix2 (⟨j.val, hj⟩ : Fin 32) f) = ix2 j f := by
    blk_ext
  rw [← e]
  refine (View.canon_cons_emb _ _ _ _).trans ?_
  rw [View.readCov_eq_canon']
  have e2 : (Rect.unit (s := S288x512) ![256, 0] ![32, 512] inb_S288x512_S32x512_256_0).toLoadRect.idx (ix2 (⟨j.val, hj⟩ : Fin 32) f)
      = (Rect.unit (s := S288x512) ![32, 0] ![256, 512] inb_S288x512_S256x512_32_0).emb (ix2 (⟨224 + j.val, by omega⟩ : Fin 256) f) := by
    funext a; apply Fin.ext
    fin_cases a
    · show 256 + 1 * j.val = 32 + 1 * (224 + j.val); omega
    · show 0 + 1 * f.val = 0 + 1 * f.val; rfl
  have e3 := View.canon_cons_emb (Val := Elt Ideal) (Rect.unit (s := S288x512) ![32, 0] ![256, 512] inb_S288x512_S256x512_32_0) A L (ix2 (⟨224 + j.val, by omega⟩ : Fin 256) f)
  rw [← e2] at e3
  refine Eq.trans ?_ e3
  pointwise [k0_pay56]

variable (Z : Vec Ideal S288x512 .f32)
/-- The copied window of shift 0: the gated rows from row 2 on. -/
theorem win0 (q : Fin 280) (f : Fin 512) : k0_pay40 (View.ld Z (Rect.unit ![2, 0] ![280, 512] inb_S288x512_S280x512_2_0)) (ix2 q f) = Z (ix2 ⟨2 + q.val, by omega⟩ f) := by
  pointwise [k0_pay40]
/-- The copied window of shift 1: the gated rows from row 3 on. -/
theorem win1 (q : Fin 280) (f : Fin 512) : k0_pay42 (View.ld Z (Rect.unit ![3, 0] ![280, 512] inb_S288x512_S280x512_3_0)) (ix2 q f) = Z (ix2 ⟨3 + q.val, by omega⟩ f) := by
  pointwise [k0_pay42]
/-- The copied window of shift 2: the gated rows from row 4 on. -/
theorem win2 (q : Fin 280) (f : Fin 512) : k0_pay44 (View.ld Z (Rect.unit ![4, 0] ![280, 512] inb_S288x512_S280x512_4_0)) (ix2 q f) = Z (ix2 ⟨4 + q.val, by omega⟩ f) := by
  pointwise [k0_pay44]
/-- The copied window of shift 3: the gated rows from row 5 on. -/
theorem win3 (q : Fin 280) (f : Fin 512) : k0_pay47 (View.ld Z (Rect.unit ![5, 0] ![280, 512] inb_S288x512_S280x512_5_0)) (ix2 q f) = Z (ix2 ⟨5 + q.val, by omega⟩ f) := by
  pointwise [k0_pay47]
/-- The copied window of shift 4: the gated rows from row 6 on. -/
theorem win4 (q : Fin 280) (f : Fin 512) : k0_pay49 (View.ld Z (Rect.unit ![6, 0] ![280, 512] inb_S288x512_S280x512_6_0)) (ix2 q f) = Z (ix2 ⟨6 + q.val, by omega⟩ f) := by
  pointwise [k0_pay49]
/-- The copied window of shift 5: the gated rows from row 7 on. -/
theorem win5 (q : Fin 280) (f : Fin 512) : k0_pay50 (View.ld Z (Rect.unit ![7, 0] ![280, 512] inb_S288x512_S280x512_7_0)) (ix2 q f) = Z (ix2 ⟨7 + q.val, by omega⟩ f) := by
  pointwise [k0_pay50]
/-- The copied window of shift 6: the gated rows from row 8 on. -/
theorem win6 (q : Fin 280) (f : Fin 512) : k0_pay52 (View.ld Z (Rect.unit ![8, 0] ![280, 512] inb_S288x512_S280x512_8_0)) (ix2 q f) = Z (ix2 ⟨8 + q.val, by omega⟩ f) := by
  pointwise [k0_pay52]
/-- The copied window of shift 7: the gated rows from row 9 on. -/
theorem win7 (q : Fin 272) (f : Fin 512) : k0_pay54 (View.ld Z (Rect.unit ![9, 0] ![272, 512] inb_S288x512_S272x512_9_0)) (ix2 q f) = Z (ix2 ⟨9 + q.val, by omega⟩ f) := by
  pointwise [k0_pay54]

/-- A tap's rows out of a copied window. -/
theorem tap {n : ℕ} (W : Vec Ideal ⟨2, ![n, 512]⟩ .f32) (L : List (View.Piece (Elt Ideal) S288x512 .f32)) (base o j : ℕ) (ho : o + 256 ≤ n ∧ n + base ≤ 288 ∧ base + o = 2 + j)
    (inb : ∀ a, (![0, 0] : Fin 2 → ℕ) a + (![n, 512] : Fin 2 → ℕ) a ≤ S288x512.size a) (inb' : ∀ a, (![o, 0] : Fin 2 → ℕ) a + (![256, 512] : Fin 2 → ℕ) a ≤ S288x512.size a)
    (hW : ∀ (q : Fin n) (f : Fin 512), W (ix2 q f) = Z (ix2 ⟨base + q.val, by omega⟩ f)) (r : Fin 256) (f : Fin 512) :
    (View.whole cc0_scratch1).readCov ((⟨Rect.unit ![0, 0] ![n, 512] inb, W⟩ : View.Piece (Elt Ideal) S288x512 .f32) :: L) (Rect.unit (s := S288x512) ![o, 0] ![256, 512] inb').toLoadRect (ix2 r f)
    = Z (ix2 ⟨2 + j + r.val, by omega⟩ f) := by
  rw [View.readCov_eq_canon']
  have e2 : (Rect.unit (s := S288x512) ![o, 0] ![256, 512] inb').toLoadRect.idx (ix2 r f)
      = (Rect.unit (s := S288x512) ![0, 0] ![n, 512] inb).emb (ix2 (⟨o + r.val, by omega⟩ : Fin n) f) := by
    funext a; apply Fin.ext
    fin_cases a
    · show o + 1 * r.val = 0 + 1 * (o + r.val); omega
    · show 0 + 1 * f.val = 0 + 1 * f.val; rfl
  have e3 := View.canon_cons_emb (Val := Elt Ideal) (Rect.unit (s := S288x512) ![0, 0] ![n, 512] inb) W L (ix2 (⟨o + r.val, by omega⟩ : Fin n) f)
  rw [← e2] at e3
  refine e3.trans ((hW _ _).trans ?_)
  congr 2
  exact Fin.ext (show base + (o + r.val) = 2 + j + r.val by omega)

/-- A row and a slab of lanes of a block. -/
theorem crow (C : Vec Ideal S31x512 .f32) (j : ℕ) (hj : j < 31) (inb : ∀ a, (![j, 0] : Fin 2 → ℕ) a + (![1, 512] : Fin 2 → ℕ) a ≤ S31x512.size a) (f : Fin 512) :
    View.ld C (Rect.unit ![j, 0] ![1, 512] inb) (ix2 0 f) = C (ix2 ⟨j, hj⟩ f) := by
  refine congrArg C (funext fun a => Fin.ext ?_)
  fin_cases a
  · rfl
  · show 0 + 1 * f.val = f.val; omega
/-- A load of 128 lanes of a one-row array. -/
theorem clane (C : Vec Ideal S1x512 .f32) (o : ℕ) (ho : o + 128 ≤ 512) (inb : ∀ a, (![0, o] : Fin 2 → ℕ) a + (![1, 128] : Fin 2 → ℕ) a ≤ S1x512.size a) (l : Fin 128) :
    View.ld C (Rect.unit ![0, o] ![1, 128] inb) (ix2 0 l) = C (ix2 0 ⟨o + l.val, by omega⟩) := by
  refine congrArg C (funext fun a => Fin.ext ?_)
  fin_cases a
  · rfl
  · show o + 1 * l.val = o + l.val; omega

/-- One normed group of the branch. -/
theorem ns_val (k : ℕ) (hk : k < 4) (Y : FVec Ideal S256x512 .f32) (g b : Vec Ideal S1x128 .f32) (r : Fin 256) (l : Fin 128)
    (P : Fin 8448 → Fin 3144 → EReal) (cw : Fin 31 → Fin 512 → EReal) (cb cg cl : Fin 512 → EReal) (s : Fin 8192)
    (hY : ∀ f, Y (ix2 r f) = ProjLayer.convAt (fun j => ProjLayer.gate (P ⟨226 + s.val + j.val, by omega⟩) f) (fun j => cw j f) (cb f))
    (hg : g (ix2 0 l) = cg ⟨k * 128 + l.val, by omega⟩) (hb : b (ix2 0 l) = cl ⟨k * 128 + l.val, by omega⟩) :
    ns Y g b r l (k * 128) (by omega) = ProjLayer.convOut P cw cb cg cl s ⟨k * 128 + l.val, by omega⟩ := by
  have e : ∀ l' : Fin 128, (⟨(k * 128 + l.val) / 128 * 128 + l'.val, by omega⟩ : Fin 512) = ⟨k * 128 + l'.val, by omega⟩ := fun l' =>
    Fin.ext (show (k * 128 + l.val) / 128 * 128 + l'.val = k * 128 + l'.val by omega)
  have e' : (⟨(k * 128 + l.val) % 128, by omega⟩ : Fin 128) = l := Fin.ext (show (k * 128 + l.val) % 128 = l.val by omega)
  unfold ProjLayer.convOut ns
  simp only [e, e', hY, hg, hb]
end reads

section steps
variable (c : Dev nD) (t : Fin cfg0.N)
/-- The gated rows of a block. -/
theorem gate_val (r : Fin 256) (f : Fin 512) : k0_pay39 (prod m c t) (ix2 r f) = ProjLayer.gate (rowsOf m c (bat t) (prow t r)) f := by
  refine (pay39 _ r f).trans ?_
  have e1 := prod_apply m c t r ⟨2048 + f.val, by omega⟩
  have e2 := prod_apply m c t r ⟨2560 + f.val, by omega⟩
  have w1 : ∀ P, ProjLayer.wide P ⟨2048 + f.val, by omega⟩ = P ⟨2120 + f.val, by omega⟩ := fun P => by
    unfold ProjLayer.wide
    rw [dif_neg (show ¬2048 + f.val < 2048 by omega), dif_pos (show 2048 + f.val < 3072 by omega)]
    exact congrArg P (Fin.ext (show 2048 + f.val + 72 = 2120 + f.val by omega))
  have w2 : ∀ P, ProjLayer.wide P ⟨2560 + f.val, by omega⟩ = P ⟨2632 + f.val, by omega⟩ := fun P => by
    unfold ProjLayer.wide
    rw [dif_neg (show ¬2560 + f.val < 2048 by omega), dif_pos (show 2560 + f.val < 3072 by omega)]
    exact congrArg P (Fin.ext (show 2560 + f.val + 72 = 2632 + f.val by omega))
  exact congrArg₂ (fun a b => a * Ideal.logistic b) (e1.trans (w1 _)) (e2.trans (w2 _))
/-- The rows a step keeps for the next one. -/
theorem kept (j : Fin 288) (f : Fin 512) (hj : j.val < 32) : (outsAt0 m c t.val t.isLt).2.2.2.2.2.2.2.2 (ix2 j f) = k0_pay39 (prod m c t) (ix2 ⟨224 + j.val, by omega⟩ f) := by
  by_cases hA : t.val % 33 = 0
  · rw [outsAt0_A m c t hA]
    frame_out
    exact keep _ _ _ j f hj
  · rw [outsAt0_B m c t hA]
    frame_out
    exact keep _ _ _ j f hj
end steps

/-- The convolution branch, as one function of the arguments. -/
def convArr (c : Dev nD) : FVec Ideal S4x8192x512 .bf16 := fun i => ProjLayer.convOut (rowsOf m c (i 0)) (fun j f => (m ((c : Thread nD τ).loc main_arg4) : FVec Ideal S1x31x512 .f32) (ix3 0 j f))
  (fun f => (m ((c : Thread nD τ).loc main_arg5) : FVec Ideal S1x512 .f32) (ix2 0 f)) (fun f => (m ((c : Thread nD τ).loc main_arg6) : FVec Ideal S1x512 .f32) (ix2 0 f))
  (fun f => (m ((c : Thread nD τ).loc main_arg7) : FVec Ideal S1x512 .f32) (ix2 0 f)) (i 1) (i 2)
/-- After the whole grid result 3 holds the convolution branch. -/
theorem final13 (c : Dev nD) : (dats m 0 c).arrAt 13 (cfgs 0).N = convArr m c := by
  refine (dats m 0 c).arrAt_eq_of_covers 13 _ (by decide +kernel) fun t hf y => ?_
  have hB : ¬t.val % 33 = 0 := (by decide +kernel : ∀ t : Fin cfg0.N, (cfg0.win 13).flush t = true → ¬t.val % 33 = 0) t hf
  blk_simp
  rw [after0_13]
  have e : ((View.whole main_v90_3).slice (win0_13.rect t)).emb y = ix3 (bat t) (srow t (y 1)) (y 2) := by
    idx_vars y
    blk_ext [idx t, bat, srow]
  rw [e]
  have hC : ∀ j f, iblk m c 6 t (ix2 j f) = m ((c : Thread nD τ).loc main_arg4) (ix3 0 j f) := fun j f => (congrFun (iblk6 m c t) _).trans (taps_apply m c j f)
  have hz0 : ∀ (h : (Memref.whole cc0_scratch0).IsWhole) (h' : t.val - 1 < cfg0.N) (j : Fin 288) (f : Fin 512), (View.whole cc0_scratch0).read (Elt Ideal) ((View.whole cc0_scratch0).writes (Elt Ideal)
      (h.unread (outsAt0 m c (t.val - 1) h').2.2.2.2.2.2.2.2) [⟨Rect.unit ![32, 0] ![256, 512] inb_S288x512_S256x512_32_0, k0_pay39 (prod m c t)⟩]) (ix2 j f)
      = ProjLayer.gate (rowsOf m c (bat t) ⟨t.val % 33 * 256 - 32 + j.val, by omega⟩) f := fun h h' j f => by
    refine (scr_read _ _ h j f).trans ?_
    by_cases hj : j.val < 32
    · rw [dif_pos hj]
      refine (kept m c ⟨t.val - 1, h'⟩ j f hj).trans ((gate_val m c ⟨t.val - 1, h'⟩ _ f).trans ?_)
      have b : bat ⟨t.val - 1, h'⟩ = bat t := Fin.ext (show (t.val - 1) / 33 = t.val / 33 by omega)
      rw [b]
      exact congrArg (fun p => ProjLayer.gate (rowsOf m c (bat t) p) f) (Fin.ext (show (t.val - 1) % 33 * 256 + (224 + j.val) = t.val % 33 * 256 - 32 + j.val by omega))
    · rw [dif_neg hj]
      refine (gate_val m c t _ f).trans ?_
      exact congrArg (fun p => ProjLayer.gate (rowsOf m c (bat t) p) f) (Fin.ext (show t.val % 33 * 256 + (j.val - 32) = t.val % 33 * 256 - 32 + j.val by omega))
  rw [outsAt0_B m c t hB]
  frame_out
  generalize hz : View.read (Elt Ideal) (View.whole cc0_scratch0) _ = Z
  have key : ∀ (j : Fin 288) (f : Fin 512), Z (ix2 j f) = ProjLayer.gate (rowsOf m c (bat t) ⟨t.val % 33 * 256 - 32 + j.val, by omega⟩) f := fun j f => hz ▸ hz0 _ _ j f
  clear hz hz0
  rw [iblk7, iblk8, iblk9]
  show _ = ProjLayer.convOut (rowsOf m c (bat t)) _ _ _ _ (srow t (y 1)) (y 2)
  generalize iblk m c 6 t = C at hC ⊢
  generalize rowsOf m c (bat t) = P at key ⊢
  generalize hW : (fun j f => (m ((c : Thread nD τ).loc main_arg4) : FVec Ideal S1x31x512 .f32) (ix3 0 j f)) = W
  replace hC : ∀ j f, C (ix2 j f) = W j f := fun j f => (hC j f).trans (congrFun (congrFun hW j) f)
  clear hW
  generalize m ((c : Thread nD τ).loc main_arg5) = B
  generalize m ((c : Thread nD τ).loc main_arg6) = G
  generalize m ((c : Thread nD τ).loc main_arg7) = Lb
  have hu : ∀ (r : Fin 256) (f : Fin 512) (j : Fin 31), Z (ix2 ⟨2 + j.val + r.val, by omega⟩ f) = ProjLayer.gate (P ⟨226 + (srow t r).val + j.val, by omega⟩) f := fun r f j =>
    (key _ f).trans (congrArg (fun p => ProjLayer.gate (P p) f) (Fin.ext (show t.val % 33 * 256 - 32 + (2 + j.val + r.val) = 226 + ((t.val % 33 - 1) * 256 + r.val) + j.val by omega)))
  revert Z C P W B G Lb
  refine id ?_
  intro (Z : Vec Ideal S288x512 .f32) (C : Vec Ideal S31x512 .f32) P key (W : Fin 31 → Fin 512 → EReal) hC (B : Vec Ideal S1x512 .f32) (G : Vec Ideal S1x512 .f32) (Lb : Vec Ideal S1x512 .f32) hu
  refine slabs _ _ _ _ (fun r f => ProjLayer.convOut P W (fun f => B (ix2 0 f)) (fun f => G (ix2 0 f)) (fun f => Lb (ix2 0 f)) (srow t r) f) ?_ ?_ ?_ ?_ y

  · exact fun r l => (pay57 _ _ _ r l).trans (ns_val 0 (by omega) _ _ _ r l P W _ _ _ _ (fun f => convPay _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ r f (fun j => ProjLayer.gate (P ⟨226 + (srow t r).val + j.val, by omega⟩) f) (fun j => W j f)
      ((tap Z _ _ 2 0 0 (by decide) _ _ (win0 Z) r f).trans (hu r f 0)) ((crow C 0 (by omega) _ f).trans (hC _ f)) ((tap Z _ _ 3 0 1 (by decide) _ _ (win1 Z) r f).trans (hu r f 1)) ((crow C 1 (by omega) _ f).trans (hC _ f)) ((tap Z _ _ 4 0 2 (by decide) _ _ (win2 Z) r f).trans (hu r f 2)) ((crow C 2 (by omega) _ f).trans (hC _ f)) ((tap Z _ _ 5 0 3 (by decide) _ _ (win3 Z) r f).trans (hu r f 3)) ((crow C 3 (by omega) _ f).trans (hC _ f)) ((tap Z _ _ 6 0 4 (by decide) _ _ (win4 Z) r f).trans (hu r f 4)) ((crow C 4 (by omega) _ f).trans (hC _ f)) ((tap Z _ _ 7 0 5 (by decide) _ _ (win5 Z) r f).trans (hu r f 5)) ((crow C 5 (by omega) _ f).trans (hC _ f)) ((tap Z _ _ 8 0 6 (by decide) _ _ (win6 Z) r f).trans (hu r f 6)) ((crow C 6 (by omega) _ f).trans (hC _ f)) ((tap Z _ _ 9 0 7 (by decide) _ _ (win7 Z) r f).trans (hu r f 7)) ((crow C 7 (by omega) _ f).trans (hC _ f)) ((tap Z _ _ 2 8 8 (by decide) _ _ (win0 Z) r f).trans (hu r f 8)) ((crow C 8 (by omega) _ f).trans (hC _ f)) ((tap Z _ _ 3 8 9 (by decide) _ _ (win1 Z) r f).trans (hu r f 9)) ((crow C 9 (by omega) _ f).trans (hC _ f)) ((tap Z _ _ 4 8 10 (by decide) _ _ (win2 Z) r f).trans (hu r f 10)) ((crow C 10 (by omega) _ f).trans (hC _ f)) ((tap Z _ _ 5 8 11 (by decide) _ _ (win3 Z) r f).trans (hu r f 11)) ((crow C 11 (by omega) _ f).trans (hC _ f)) ((tap Z _ _ 6 8 12 (by decide) _ _ (win4 Z) r f).trans (hu r f 12)) ((crow C 12 (by omega) _ f).trans (hC _ f)) ((tap Z _ _ 7 8 13 (by decide) _ _ (win5 Z) r f).trans (hu r f 13)) ((crow C 13 (by omega) _ f).trans (hC _ f)) ((tap Z _ _ 8 8 14 (by decide) _ _ (win6 Z) r f).trans (hu r f 14)) ((crow C 14 (by omega) _ f).trans (hC _ f)) ((tap Z _ _ 9 8 15 (by decide) _ _ (win7 Z) r f).trans (hu r f 15)) ((crow C 15 (by omega) _ f).trans (hC _ f)) ((tap Z _ _ 2 16 16 (by decide) _ _ (win0 Z) r f).trans (hu r f 16)) ((crow C 16 (by omega) _ f).trans (hC _ f)) ((tap Z _ _ 3 16 17 (by decide) _ _ (win1 Z) r f).trans (hu r f 17)) ((crow C 17 (by omega) _ f).trans (hC _ f)) ((tap Z _ _ 4 16 18 (by decide) _ _ (win2 Z) r f).trans (hu r f 18)) ((crow C 18 (by omega) _ f).trans (hC _ f)) ((tap Z _ _ 5 16 19 (by decide) _ _ (win3 Z) r f).trans (hu r f 19)) ((crow C 19 (by omega) _ f).trans (hC _ f)) ((tap Z _ _ 6 16 20 (by decide) _ _ (win4 Z) r f).trans (hu r f 20)) ((crow C 20 (by omega) _ f).trans (hC _ f)) ((tap Z _ _ 7 16 21 (by decide) _ _ (win5 Z) r f).trans (hu r f 21)) ((crow C 21 (by omega) _ f).trans (hC _ f)) ((tap Z _ _ 8 16 22 (by decide) _ _ (win6 Z) r f).trans (hu r f 22)) ((crow C 22 (by omega) _ f).trans (hC _ f)) ((tap Z _ _ 9 16 23 (by decide) _ _ (win7 Z) r f).trans (hu r f 23)) ((crow C 23 (by omega) _ f).trans (hC _ f)) ((tap Z _ _ 2 24 24 (by decide) _ _ (win0 Z) r f).trans (hu r f 24)) ((crow C 24 (by omega) _ f).trans (hC _ f)) ((tap Z _ _ 3 24 25 (by decide) _ _ (win1 Z) r f).trans (hu r f 25)) ((crow C 25 (by omega) _ f).trans (hC _ f)) ((tap Z _ _ 4 24 26 (by decide) _ _ (win2 Z) r f).trans (hu r f 26)) ((crow C 26 (by omega) _ f).trans (hC _ f)) ((tap Z _ _ 5 24 27 (by decide) _ _ (win3 Z) r f).trans (hu r f 27)) ((crow C 27 (by omega) _ f).trans (hC _ f)) ((tap Z _ _ 6 24 28 (by decide) _ _ (win4 Z) r f).trans (hu r f 28)) ((crow C 28 (by omega) _ f).trans (hC _ f)) ((tap Z _ _ 7 24 29 (by decide) _ _ (win5 Z) r f).trans (hu r f 29)) ((crow C 29 (by omega) _ f).trans (hC _ f)) ((tap Z _ _ 8 24 30 (by decide) _ _ (win6 Z) r f).trans (hu r f 30)) ((crow C 30 (by omega) _ f).trans (hC _ f))) (clane _ 0 (by omega) _ l) (clane _ 0 (by omega) _ l))
  · exact fun r l => (pay60 _ _ _ r l).trans (ns_val 1 (by omega) _ _ _ r l P W _ _ _ _ (fun f => convPay _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ r f (fun j => ProjLayer.gate (P ⟨226 + (srow t r).val + j.val, by omega⟩) f) (fun j => W j f)
      ((tap Z _ _ 2 0 0 (by decide) _ _ (win0 Z) r f).trans (hu r f 0)) ((crow C 0 (by omega) _ f).trans (hC _ f)) ((tap Z _ _ 3 0 1 (by decide) _ _ (win1 Z) r f).trans (hu r f 1)) ((crow C 1 (by omega) _ f).trans (hC _ f)) ((tap Z _ _ 4 0 2 (by decide) _ _ (win2 Z) r f).trans (hu r f 2)) ((crow C 2 (by omega) _ f).trans (hC _ f)) ((tap Z _ _ 5 0 3 (by decide) _ _ (win3 Z) r f).trans (hu r f 3)) ((crow C 3 (by omega) _ f).trans (hC _ f)) ((tap Z _ _ 6 0 4 (by decide) _ _ (win4 Z) r f).trans (hu r f 4)) ((crow C 4 (by omega) _ f).trans (hC _ f)) ((tap Z _ _ 7 0 5 (by decide) _ _ (win5 Z) r f).trans (hu r f 5)) ((crow C 5 (by omega) _ f).trans (hC _ f)) ((tap Z _ _ 8 0 6 (by decide) _ _ (win6 Z) r f).trans (hu r f 6)) ((crow C 6 (by omega) _ f).trans (hC _ f)) ((tap Z _ _ 9 0 7 (by decide) _ _ (win7 Z) r f).trans (hu r f 7)) ((crow C 7 (by omega) _ f).trans (hC _ f)) ((tap Z _ _ 2 8 8 (by decide) _ _ (win0 Z) r f).trans (hu r f 8)) ((crow C 8 (by omega) _ f).trans (hC _ f)) ((tap Z _ _ 3 8 9 (by decide) _ _ (win1 Z) r f).trans (hu r f 9)) ((crow C 9 (by omega) _ f).trans (hC _ f)) ((tap Z _ _ 4 8 10 (by decide) _ _ (win2 Z) r f).trans (hu r f 10)) ((crow C 10 (by omega) _ f).trans (hC _ f)) ((tap Z _ _ 5 8 11 (by decide) _ _ (win3 Z) r f).trans (hu r f 11)) ((crow C 11 (by omega) _ f).trans (hC _ f)) ((tap Z _ _ 6 8 12 (by decide) _ _ (win4 Z) r f).trans (hu r f 12)) ((crow C 12 (by omega) _ f).trans (hC _ f)) ((tap Z _ _ 7 8 13 (by decide) _ _ (win5 Z) r f).trans (hu r f 13)) ((crow C 13 (by omega) _ f).trans (hC _ f)) ((tap Z _ _ 8 8 14 (by decide) _ _ (win6 Z) r f).trans (hu r f 14)) ((crow C 14 (by omega) _ f).trans (hC _ f)) ((tap Z _ _ 9 8 15 (by decide) _ _ (win7 Z) r f).trans (hu r f 15)) ((crow C 15 (by omega) _ f).trans (hC _ f)) ((tap Z _ _ 2 16 16 (by decide) _ _ (win0 Z) r f).trans (hu r f 16)) ((crow C 16 (by omega) _ f).trans (hC _ f)) ((tap Z _ _ 3 16 17 (by decide) _ _ (win1 Z) r f).trans (hu r f 17)) ((crow C 17 (by omega) _ f).trans (hC _ f)) ((tap Z _ _ 4 16 18 (by decide) _ _ (win2 Z) r f).trans (hu r f 18)) ((crow C 18 (by omega) _ f).trans (hC _ f)) ((tap Z _ _ 5 16 19 (by decide) _ _ (win3 Z) r f).trans (hu r f 19)) ((crow C 19 (by omega) _ f).trans (hC _ f)) ((tap Z _ _ 6 16 20 (by decide) _ _ (win4 Z) r f).trans (hu r f 20)) ((crow C 20 (by omega) _ f).trans (hC _ f)) ((tap Z _ _ 7 16 21 (by decide) _ _ (win5 Z) r f).trans (hu r f 21)) ((crow C 21 (by omega) _ f).trans (hC _ f)) ((tap Z _ _ 8 16 22 (by decide) _ _ (win6 Z) r f).trans (hu r f 22)) ((crow C 22 (by omega) _ f).trans (hC _ f)) ((tap Z _ _ 9 16 23 (by decide) _ _ (win7 Z) r f).trans (hu r f 23)) ((crow C 23 (by omega) _ f).trans (hC _ f)) ((tap Z _ _ 2 24 24 (by decide) _ _ (win0 Z) r f).trans (hu r f 24)) ((crow C 24 (by omega) _ f).trans (hC _ f)) ((tap Z _ _ 3 24 25 (by decide) _ _ (win1 Z) r f).trans (hu r f 25)) ((crow C 25 (by omega) _ f).trans (hC _ f)) ((tap Z _ _ 4 24 26 (by decide) _ _ (win2 Z) r f).trans (hu r f 26)) ((crow C 26 (by omega) _ f).trans (hC _ f)) ((tap Z _ _ 5 24 27 (by decide) _ _ (win3 Z) r f).trans (hu r f 27)) ((crow C 27 (by omega) _ f).trans (hC _ f)) ((tap Z _ _ 6 24 28 (by decide) _ _ (win4 Z) r f).trans (hu r f 28)) ((crow C 28 (by omega) _ f).trans (hC _ f)) ((tap Z _ _ 7 24 29 (by decide) _ _ (win5 Z) r f).trans (hu r f 29)) ((crow C 29 (by omega) _ f).trans (hC _ f)) ((tap Z _ _ 8 24 30 (by decide) _ _ (win6 Z) r f).trans (hu r f 30)) ((crow C 30 (by omega) _ f).trans (hC _ f))) (clane _ 128 (by omega) _ l) (clane _ 128 (by omega) _ l))
  · exact fun r l => (pay62 _ _ _ r l).trans (ns_val 2 (by omega) _ _ _ r l P W _ _ _ _ (fun f => convPay _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ r f (fun j => ProjLayer.gate (P ⟨226 + (srow t r).val + j.val, by omega⟩) f) (fun j => W j f)
      ((tap Z _ _ 2 0 0 (by decide) _ _ (win0 Z) r f).trans (hu r f 0)) ((crow C 0 (by omega) _ f).trans (hC _ f)) ((tap Z _ _ 3 0 1 (by decide) _ _ (win1 Z) r f).trans (hu r f 1)) ((crow C 1 (by omega) _ f).trans (hC _ f)) ((tap Z _ _ 4 0 2 (by decide) _ _ (win2 Z) r f).trans (hu r f 2)) ((crow C 2 (by omega) _ f).trans (hC _ f)) ((tap Z _ _ 5 0 3 (by decide) _ _ (win3 Z) r f).trans (hu r f 3)) ((crow C 3 (by omega) _ f).trans (hC _ f)) ((tap Z _ _ 6 0 4 (by decide) _ _ (win4 Z) r f).trans (hu r f 4)) ((crow C 4 (by omega) _ f).trans (hC _ f)) ((tap Z _ _ 7 0 5 (by decide) _ _ (win5 Z) r f).trans (hu r f 5)) ((crow C 5 (by omega) _ f).trans (hC _ f)) ((tap Z _ _ 8 0 6 (by decide) _ _ (win6 Z) r f).trans (hu r f 6)) ((crow C 6 (by omega) _ f).trans (hC _ f)) ((tap Z _ _ 9 0 7 (by decide) _ _ (win7 Z) r f).trans (hu r f 7)) ((crow C 7 (by omega) _ f).trans (hC _ f)) ((tap Z _ _ 2 8 8 (by decide) _ _ (win0 Z) r f).trans (hu r f 8)) ((crow C 8 (by omega) _ f).trans (hC _ f)) ((tap Z _ _ 3 8 9 (by decide) _ _ (win1 Z) r f).trans (hu r f 9)) ((crow C 9 (by omega) _ f).trans (hC _ f)) ((tap Z _ _ 4 8 10 (by decide) _ _ (win2 Z) r f).trans (hu r f 10)) ((crow C 10 (by omega) _ f).trans (hC _ f)) ((tap Z _ _ 5 8 11 (by decide) _ _ (win3 Z) r f).trans (hu r f 11)) ((crow C 11 (by omega) _ f).trans (hC _ f)) ((tap Z _ _ 6 8 12 (by decide) _ _ (win4 Z) r f).trans (hu r f 12)) ((crow C 12 (by omega) _ f).trans (hC _ f)) ((tap Z _ _ 7 8 13 (by decide) _ _ (win5 Z) r f).trans (hu r f 13)) ((crow C 13 (by omega) _ f).trans (hC _ f)) ((tap Z _ _ 8 8 14 (by decide) _ _ (win6 Z) r f).trans (hu r f 14)) ((crow C 14 (by omega) _ f).trans (hC _ f)) ((tap Z _ _ 9 8 15 (by decide) _ _ (win7 Z) r f).trans (hu r f 15)) ((crow C 15 (by omega) _ f).trans (hC _ f)) ((tap Z _ _ 2 16 16 (by decide) _ _ (win0 Z) r f).trans (hu r f 16)) ((crow C 16 (by omega) _ f).trans (hC _ f)) ((tap Z _ _ 3 16 17 (by decide) _ _ (win1 Z) r f).trans (hu r f 17)) ((crow C 17 (by omega) _ f).trans (hC _ f)) ((tap Z _ _ 4 16 18 (by decide) _ _ (win2 Z) r f).trans (hu r f 18)) ((crow C 18 (by omega) _ f).trans (hC _ f)) ((tap Z _ _ 5 16 19 (by decide) _ _ (win3 Z) r f).trans (hu r f 19)) ((crow C 19 (by omega) _ f).trans (hC _ f)) ((tap Z _ _ 6 16 20 (by decide) _ _ (win4 Z) r f).trans (hu r f 20)) ((crow C 20 (by omega) _ f).trans (hC _ f)) ((tap Z _ _ 7 16 21 (by decide) _ _ (win5 Z) r f).trans (hu r f 21)) ((crow C 21 (by omega) _ f).trans (hC _ f)) ((tap Z _ _ 8 16 22 (by decide) _ _ (win6 Z) r f).trans (hu r f 22)) ((crow C 22 (by omega) _ f).trans (hC _ f)) ((tap Z _ _ 9 16 23 (by decide) _ _ (win7 Z) r f).trans (hu r f 23)) ((crow C 23 (by omega) _ f).trans (hC _ f)) ((tap Z _ _ 2 24 24 (by decide) _ _ (win0 Z) r f).trans (hu r f 24)) ((crow C 24 (by omega) _ f).trans (hC _ f)) ((tap Z _ _ 3 24 25 (by decide) _ _ (win1 Z) r f).trans (hu r f 25)) ((crow C 25 (by omega) _ f).trans (hC _ f)) ((tap Z _ _ 4 24 26 (by decide) _ _ (win2 Z) r f).trans (hu r f 26)) ((crow C 26 (by omega) _ f).trans (hC _ f)) ((tap Z _ _ 5 24 27 (by decide) _ _ (win3 Z) r f).trans (hu r f 27)) ((crow C 27 (by omega) _ f).trans (hC _ f)) ((tap Z _ _ 6 24 28 (by decide) _ _ (win4 Z) r f).trans (hu r f 28)) ((crow C 28 (by omega) _ f).trans (hC _ f)) ((tap Z _ _ 7 24 29 (by decide) _ _ (win5 Z) r f).trans (hu r f 29)) ((crow C 29 (by omega) _ f).trans (hC _ f)) ((tap Z _ _ 8 24 30 (by decide) _ _ (win6 Z) r f).trans (hu r f 30)) ((crow C 30 (by omega) _ f).trans (hC _ f))) (clane _ 256 (by omega) _ l) (clane _ 256 (by omega) _ l))
  · exact fun r l => (pay63 _ _ _ r l).trans (ns_val 3 (by omega) _ _ _ r l P W _ _ _ _ (fun f => convPay _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ r f (fun j => ProjLayer.gate (P ⟨226 + (srow t r).val + j.val, by omega⟩) f) (fun j => W j f)
      ((tap Z _ _ 2 0 0 (by decide) _ _ (win0 Z) r f).trans (hu r f 0)) ((crow C 0 (by omega) _ f).trans (hC _ f)) ((tap Z _ _ 3 0 1 (by decide) _ _ (win1 Z) r f).trans (hu r f 1)) ((crow C 1 (by omega) _ f).trans (hC _ f)) ((tap Z _ _ 4 0 2 (by decide) _ _ (win2 Z) r f).trans (hu r f 2)) ((crow C 2 (by omega) _ f).trans (hC _ f)) ((tap Z _ _ 5 0 3 (by decide) _ _ (win3 Z) r f).trans (hu r f 3)) ((crow C 3 (by omega) _ f).trans (hC _ f)) ((tap Z _ _ 6 0 4 (by decide) _ _ (win4 Z) r f).trans (hu r f 4)) ((crow C 4 (by omega) _ f).trans (hC _ f)) ((tap Z _ _ 7 0 5 (by decide) _ _ (win5 Z) r f).trans (hu r f 5)) ((crow C 5 (by omega) _ f).trans (hC _ f)) ((tap Z _ _ 8 0 6 (by decide) _ _ (win6 Z) r f).trans (hu r f 6)) ((crow C 6 (by omega) _ f).trans (hC _ f)) ((tap Z _ _ 9 0 7 (by decide) _ _ (win7 Z) r f).trans (hu r f 7)) ((crow C 7 (by omega) _ f).trans (hC _ f)) ((tap Z _ _ 2 8 8 (by decide) _ _ (win0 Z) r f).trans (hu r f 8)) ((crow C 8 (by omega) _ f).trans (hC _ f)) ((tap Z _ _ 3 8 9 (by decide) _ _ (win1 Z) r f).trans (hu r f 9)) ((crow C 9 (by omega) _ f).trans (hC _ f)) ((tap Z _ _ 4 8 10 (by decide) _ _ (win2 Z) r f).trans (hu r f 10)) ((crow C 10 (by omega) _ f).trans (hC _ f)) ((tap Z _ _ 5 8 11 (by decide) _ _ (win3 Z) r f).trans (hu r f 11)) ((crow C 11 (by omega) _ f).trans (hC _ f)) ((tap Z _ _ 6 8 12 (by decide) _ _ (win4 Z) r f).trans (hu r f 12)) ((crow C 12 (by omega) _ f).trans (hC _ f)) ((tap Z _ _ 7 8 13 (by decide) _ _ (win5 Z) r f).trans (hu r f 13)) ((crow C 13 (by omega) _ f).trans (hC _ f)) ((tap Z _ _ 8 8 14 (by decide) _ _ (win6 Z) r f).trans (hu r f 14)) ((crow C 14 (by omega) _ f).trans (hC _ f)) ((tap Z _ _ 9 8 15 (by decide) _ _ (win7 Z) r f).trans (hu r f 15)) ((crow C 15 (by omega) _ f).trans (hC _ f)) ((tap Z _ _ 2 16 16 (by decide) _ _ (win0 Z) r f).trans (hu r f 16)) ((crow C 16 (by omega) _ f).trans (hC _ f)) ((tap Z _ _ 3 16 17 (by decide) _ _ (win1 Z) r f).trans (hu r f 17)) ((crow C 17 (by omega) _ f).trans (hC _ f)) ((tap Z _ _ 4 16 18 (by decide) _ _ (win2 Z) r f).trans (hu r f 18)) ((crow C 18 (by omega) _ f).trans (hC _ f)) ((tap Z _ _ 5 16 19 (by decide) _ _ (win3 Z) r f).trans (hu r f 19)) ((crow C 19 (by omega) _ f).trans (hC _ f)) ((tap Z _ _ 6 16 20 (by decide) _ _ (win4 Z) r f).trans (hu r f 20)) ((crow C 20 (by omega) _ f).trans (hC _ f)) ((tap Z _ _ 7 16 21 (by decide) _ _ (win5 Z) r f).trans (hu r f 21)) ((crow C 21 (by omega) _ f).trans (hC _ f)) ((tap Z _ _ 8 16 22 (by decide) _ _ (win6 Z) r f).trans (hu r f 22)) ((crow C 22 (by omega) _ f).trans (hC _ f)) ((tap Z _ _ 9 16 23 (by decide) _ _ (win7 Z) r f).trans (hu r f 23)) ((crow C 23 (by omega) _ f).trans (hC _ f)) ((tap Z _ _ 2 24 24 (by decide) _ _ (win0 Z) r f).trans (hu r f 24)) ((crow C 24 (by omega) _ f).trans (hC _ f)) ((tap Z _ _ 3 24 25 (by decide) _ _ (win1 Z) r f).trans (hu r f 25)) ((crow C 25 (by omega) _ f).trans (hC _ f)) ((tap Z _ _ 4 24 26 (by decide) _ _ (win2 Z) r f).trans (hu r f 26)) ((crow C 26 (by omega) _ f).trans (hC _ f)) ((tap Z _ _ 5 24 27 (by decide) _ _ (win3 Z) r f).trans (hu r f 27)) ((crow C 27 (by omega) _ f).trans (hC _ f)) ((tap Z _ _ 6 24 28 (by decide) _ _ (win4 Z) r f).trans (hu r f 28)) ((crow C 28 (by omega) _ f).trans (hC _ f)) ((tap Z _ _ 7 24 29 (by decide) _ _ (win5 Z) r f).trans (hu r f 29)) ((crow C 29 (by omega) _ f).trans (hC _ f)) ((tap Z _ _ 8 24 30 (by decide) _ _ (win6 Z) r f).trans (hu r f 30)) ((crow C 30 (by omega) _ f).trans (hC _ f))) (clane _ 384 (by omega) _ l) (clane _ 384 (by omega) _ l))
end Cert.ProjIdeal.Value
end
-- ==== Proof.Proj.Ref.lean ====
/- What the input projection reference computes, result by result, as the functions of `ProjLayer`. -/
module

public import proofs.«01_k».proof.Proof.Gen.ProjRefIdeal.Run
public import proofs.«01_k».proof.Proof.Gen.ProjRefIdeal.Read
public import proofs.«01_k».proof.Proof.Proj.Layer
public import Idealize.ShloMosaic.Lib.Pointwise

@[expose] public section
set_option maxRecDepth 16384

noncomputable section
open Idealize.ShloMosaic Idealize.ShloMosaic.TcCoe Idealize.SL.Sem
namespace Cert.ProjRefIdeal.Value
open Cert.ProjRefIdeal Cert.ProjRefIdeal.Gen Cert.ProjRefIdeal.Read

variable (X : FVec Ideal S4x8192x1024 .f32) (M : FVec Ideal S16x1024 .f32) (G : FVec Ideal S1x1024 .f32) (W : FVec Ideal S1x1024x3144 .f32)

/-- A row of the sequence behind the meta rows. -/
theorem seq_apply (b : Fin 4) (t : Fin 8208) (k : Fin 1024) : (val_main_v2 (F := Ideal) X M : FVec Ideal S4x8208x1024 .f32) (ix3 b t k)
    = ProjLayer.hAt (fun s e => X (ix3 b s e)) (fun s e => M (ix2 s e)) ⟨t.val + 240, by omega⟩ k := by
  unfold val_main_v2 val_main_v1 val_main_v0
  pointwise []
  unfold ProjLayer.hAt
  by_cases h : t.val < 16
  · simp only [dif_pos h, if_neg (show ¬ t.val + 240 < 240 by omega), dif_pos (show t.val + 240 < 256 by omega)]
    congr 2
  · simp only [dif_neg h, if_neg (show ¬ t.val + 240 < 240 by omega), dif_neg (show ¬ t.val + 240 < 256 by omega)]
    congr 2

/-- A row of the normed sequence. -/
theorem norm_apply (b : Fin 4) (t : Fin 8208) (k : Fin 1024) : (val_main_v16 (F := Ideal) X M G : FVec Ideal S4x8208x1024 .f32) (ix3 b t k)
    = Layer.rmsNorm (fun e => (val_main_v2 (F := Ideal) X M : FVec Ideal S4x8208x1024 .f32) (ix3 b t e)) (fun e => G (ix2 0 e)) k := by
  unfold val_main_v16 val_main_v15 val_main_v14 val_main_v13 val_main_v12 val_main_v11 val_main_v10 val_main_v9 val_main_v8 val_main_v7 val_main_v6 val_main_v5 val_main_v4 val_main_v3 val_main_cst val_main_cst_0 val_main_cst_1
  generalize val_main_v2 (F := Ideal) X M = H
  revert H; refine id ?_; intro H
  pointwise [Layer.rmsNorm]

/-- A row's projections. -/
theorem proj_apply (b : Fin 4) (t : Fin 8208) (f : Fin 3144) : (val_main_v18 (F := Ideal) X M G W : FVec Ideal S4x8208x3144 .f32) (ix3 b t f)
    = ProjLayer.rows (fun s e => X (ix3 b s e)) (fun s e => M (ix2 s e)) (fun e => G (ix2 0 e)) (fun e f => W (ix3 0 e f)) ⟨t.val + 240, by omega⟩ f := by
  have e : ∀ k, (val_main_v16 (F := Ideal) X M G : FVec Ideal S4x8208x1024 .f32) (ix3 b t k) = _ := fun k => norm_apply X M G b t k
  simp only [seq_apply] at e
  unfold val_main_v18 val_main_v17
  generalize val_main_v16 (F := Ideal) X M G = N at e ⊢
  revert N; refine id ?_; intro N e
  pointwise [ProjLayer.rows, ProjLayer.projAt]
  simp only [e]

/-- The angles at 16 frequencies. -/
theorem angle_q (t : Fin 8208) (l : Fin 16) : (val_main_v43 (F := Ideal) : FVec Ideal S8208x16 .f32) (ix2 t l) = ProjLayer.angle 1107296256#32 t.val l.val := by
  pointwise [val_main_v43, val_main_v42, val_main_v41, val_main_v40, val_main_v39, val_main_v38, val_main_v37, val_main_v36, val_main_v35, val_main_v34, val_main_v33, val_main_v32, val_main_v31, val_main_v30, val_main_v29, val_main_v28, val_main_cst_2, val_main_cst_3, val_main_cst_4, val_main_cst_5, ProjLayer.angle, ProjLayer.freq]

/-- The angles at 16 frequencies. -/
theorem angle_k (t : Fin 8208) (l : Fin 16) : (val_main_v79 (F := Ideal) : FVec Ideal S8208x16 .f32) (ix2 t l) = ProjLayer.angle 1107296256#32 t.val l.val := by
  pointwise [val_main_v79, val_main_v78, val_main_v77, val_main_v76, val_main_v75, val_main_v74, val_main_v73, val_main_v72, val_main_v71, val_main_v70, val_main_v69, val_main_v68, val_main_v67, val_main_v66, val_main_v65, val_main_v64, val_main_cst_6, val_main_cst_7, val_main_cst_8, val_main_cst_9, ProjLayer.angle, ProjLayer.freq]

/-- The angles at 8 frequencies. -/
theorem angle_iq (t : Fin 8208) (l : Fin 8) : (val_main_v115 (F := Ideal) : FVec Ideal S8208x8 .f32) (ix2 t l) = ProjLayer.angle 1098907648#32 t.val l.val := by
  pointwise [val_main_v115, val_main_v114, val_main_v113, val_main_v112, val_main_v111, val_main_v110, val_main_v109, val_main_v108, val_main_v107, val_main_v106, val_main_v105, val_main_v104, val_main_v103, val_main_v102, val_main_v101, val_main_v100, val_main_cst_10, val_main_cst_11, val_main_cst_12, val_main_cst_13, ProjLayer.angle, ProjLayer.freq]

/-- The angles at 8 frequencies. -/
theorem angle_ik (t : Fin 8208) (l : Fin 8) : (val_main_v151 (F := Ideal) : FVec Ideal S8208x8 .f32) (ix2 t l) = ProjLayer.angle 1098907648#32 t.val l.val := by
  pointwise [val_main_v151, val_main_v150, val_main_v149, val_main_v148, val_main_v147, val_main_v146, val_main_v145, val_main_v144, val_main_v143, val_main_v142, val_main_v141, val_main_v140, val_main_v139, val_main_v138, val_main_v137, val_main_v136, val_main_cst_14, val_main_cst_15, val_main_cst_16, val_main_cst_17, ProjLayer.angle, ProjLayer.freq]

/-- The rotated queries. -/
theorem rope_q (b : Fin 4) (t : Fin 8208) (k : Fin 512) : (val_main_v62 (F := Ideal) X M G W : FVec Ideal S4x8208x512 .f32) (ix3 b t k)
    = ProjLayer.headRope 0 (by omega) (fun f => (val_main_v18 (F := Ideal) X M G W : FVec Ideal S4x8208x3144 .f32) (ix3 b t f)) t.val k := by
  have e : ∀ l, (val_main_v43 (F := Ideal) : FVec Ideal S8208x16 .f32) (ix2 t l) = _ := fun l => angle_q t l
  unfold val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v27 val_main_v19
  generalize val_main_v18 (F := Ideal) X M G W = P
  generalize val_main_v43 (F := Ideal) = A at e ⊢
  revert P A; refine id ?_; intro P A e
  pointwise []
  simp only [e]
  unfold ProjLayer.headRope ProjLayer.rope
  by_cases h1 : k.val % 128 < 16
  · simp only [dif_pos h1]
    congr 3 <;> (congr 2; first | (simp only [Fin.mk.injEq]; omega) | omega)
  · by_cases h2 : k.val % 128 < 2 * 16
    · simp only [dif_neg h1, dif_pos (show k.val % 128 - 16 < 16 by omega), dif_pos h2]
      congr 3 <;> (congr 2; first | (simp only [Fin.mk.injEq]; omega) | omega)
    · simp only [dif_neg h1, dif_neg (show ¬ k.val % 128 - 16 < 16 by omega), dif_neg h2]
      (congr 2; first | (simp only [Fin.mk.injEq]; omega) | omega)

/-- The rotated keys. -/
theorem rope_k (b : Fin 4) (t : Fin 8208) (k : Fin 512) : (val_main_v98 (F := Ideal) X M G W : FVec Ideal S4x8208x512 .f32) (ix3 b t k)
    = ProjLayer.headRope 512 (by omega) (fun f => (val_main_v18 (F := Ideal) X M G W : FVec Ideal S4x8208x3144 .f32) (ix3 b t f)) t.val k := by
  have e : ∀ l, (val_main_v79 (F := Ideal) : FVec Ideal S8208x16 .f32) (ix2 t l) = _ := fun l => angle_k t l
  unfold val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v63 val_main_v20
  generalize val_main_v18 (F := Ideal) X M G W = P
  generalize val_main_v79 (F := Ideal) = A at e ⊢
  revert P A; refine id ?_; intro P A e
  pointwise []
  simp only [e]
  unfold ProjLayer.headRope ProjLayer.rope
  by_cases h1 : k.val % 128 < 16
  · simp only [dif_pos h1]
    congr 3 <;> (congr 2; first | (simp only [Fin.mk.injEq]; omega) | omega)
  · by_cases h2 : k.val % 128 < 2 * 16
    · simp only [dif_neg h1, dif_pos (show k.val % 128 - 16 < 16 by omega), dif_pos h2]
      congr 3 <;> (congr 2; first | (simp only [Fin.mk.injEq]; omega) | omega)
    · simp only [dif_neg h1, dif_neg (show ¬ k.val % 128 - 16 < 16 by omega), dif_neg h2]
      (congr 2; first | (simp only [Fin.mk.injEq]; omega) | omega)

/-- The rotated indexer queries. -/
theorem rope_iq (b : Fin 4) (t : Fin 8208) (k : Fin 512) : (val_main_v134 (F := Ideal) X M G W : FVec Ideal S4x8208x512 .f32) (ix3 b t k)
    = ProjLayer.indexRope (fun f => (val_main_v18 (F := Ideal) X M G W : FVec Ideal S4x8208x3144 .f32) (ix3 b t f)) t.val k := by
  have e : ∀ l, (val_main_v115 (F := Ideal) : FVec Ideal S8208x8 .f32) (ix2 t l) = _ := fun l => angle_iq t l
  unfold val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v99 val_main_v22
  generalize val_main_v18 (F := Ideal) X M G W = P
  generalize val_main_v115 (F := Ideal) = A at e ⊢
  revert P A; refine id ?_; intro P A e
  pointwise []
  simp only [e]
  unfold ProjLayer.indexRope ProjLayer.rope
  by_cases h1 : k.val % 64 < 8
  · simp only [dif_pos h1]
    congr 3 <;> (congr 2; first | (simp only [Fin.mk.injEq]; omega) | omega)
  · by_cases h2 : k.val % 64 < 2 * 8
    · simp only [dif_neg h1, dif_pos (show k.val % 64 - 8 < 8 by omega), dif_pos h2]
      congr 3 <;> (congr 2; first | (simp only [Fin.mk.injEq]; omega) | omega)
    · simp only [dif_neg h1, dif_neg (show ¬ k.val % 64 - 8 < 8 by omega), dif_neg h2]
      (congr 2; first | (simp only [Fin.mk.injEq]; omega) | omega)

/-- The rotated indexer key. -/
theorem rope_ik (b : Fin 4) (t : Fin 8208) (k : Fin 64) : (val_main_v170 (F := Ideal) X M G W : FVec Ideal S4x8208x64 .f32) (ix3 b t k)
    = ProjLayer.keyRope (fun f => (val_main_v18 (F := Ideal) X M G W : FVec Ideal S4x8208x3144 .f32) (ix3 b t f)) t.val k := by
  have e : ∀ l, (val_main_v151 (F := Ideal) : FVec Ideal S8208x8 .f32) (ix2 t l) = _ := fun l => angle_ik t l
  unfold val_main_v170 val_main_v169 val_main_v168 val_main_v167 val_main_v166 val_main_v165 val_main_v164 val_main_v163 val_main_v162 val_main_v161 val_main_v160 val_main_v159 val_main_v158 val_main_v157 val_main_v156 val_main_v155 val_main_v154 val_main_v153 val_main_v152 val_main_v135 val_main_v23
  generalize val_main_v18 (F := Ideal) X M G W = P
  generalize val_main_v151 (F := Ideal) = A at e ⊢
  revert P A; refine id ?_; intro P A e
  pointwise []
  simp only [e]
  unfold ProjLayer.keyRope ProjLayer.rope
  by_cases h1 : k.val < 8
  · simp only [dif_pos h1]
    congr 3 <;> (congr 2; first | (simp only [Fin.mk.injEq]; omega) | omega)
  · by_cases h2 : k.val < 2 * 8
    · simp only [dif_neg h1, dif_pos (show k.val - 8 < 8 by omega), dif_pos h2]
      congr 3 <;> (congr 2; first | (simp only [Fin.mk.injEq]; omega) | omega)
    · simp only [dif_neg h1, dif_neg (show ¬ k.val - 8 < 8 by omega), dif_neg h2]
      (congr 2; first | (simp only [Fin.mk.injEq]; omega) | omega)

/-- The gated convolution input. -/
theorem gate_apply (b : Fin 4) (t : Fin 8208) (k : Fin 512) : (val_main_v183 (F := Ideal) X M G W : FVec Ideal S4x8208x512 .f32) (ix3 b t k)
    = ProjLayer.gate (fun f => (val_main_v18 (F := Ideal) X M G W : FVec Ideal S4x8208x3144 .f32) (ix3 b t f)) k := by
  unfold val_main_v183 val_main_v182 val_main_v181 val_main_v180 val_main_v179 val_main_v178 val_main_v177 val_main_v25 val_main_v26 val_main_cst_19 val_main_cst_20
  generalize val_main_v18 (F := Ideal) X M G W = P
  revert P; refine id ?_; intro P
  pointwise [ProjLayer.gate]
  rfl

/-- The gated input behind 30 zero rows. -/
theorem padded_apply (b : Fin 4) (t : Fin 8238) (k : Fin 512) : (val_main_v184 (F := Ideal) X M G W : FVec Ideal S4x8238x512 .f32) (ix3 b t k)
    = if h : 30 ≤ t.val then (val_main_v183 (F := Ideal) X M G W : FVec Ideal S4x8208x512 .f32) (ix3 b ⟨t.val - 30, by omega⟩ k) else 0 := by
  unfold val_main_v184 val_main_call0_v0 val_main_c
  generalize val_main_v183 (F := Ideal) X M G W = U
  revert U; refine id ?_; intro U
  pointwise []
  by_cases h : 30 ≤ t.val
  · rw [dif_pos ⟨h, by omega⟩, dif_pos h]
  · rw [dif_neg (fun e => h e.1), dif_neg h]; exact ProjLayer.sitofp_zero

variable (CW : FVec Ideal S1x31x512 .f32) (CB CG CL : FVec Ideal S1x512 .f32)

/-- The convolution: the 31 padded rows from the position on by the taps, plus the bias. -/
theorem conv_apply (b : Fin 4) (t : Fin 8208) (k : Fin 512) : (val_main_v405 (F := Ideal) X M G W CW CB : FVec Ideal S4x8208x512 .f32) (ix3 b t k)
    = ProjLayer.convAt (fun j => (val_main_v184 (F := Ideal) X M G W : FVec Ideal S4x8238x512 .f32) (ix3 b ⟨j.val + t.val, by omega⟩ k)) (fun j => CW (ix3 0 j k)) (CB (ix2 0 k)) := by
  unfold val_main_v405 val_main_v404 val_main_v403 val_main_v402 val_main_v401 val_main_v400 val_main_v399 val_main_v398 val_main_v397 val_main_v396 val_main_v395 val_main_v394 val_main_v393 val_main_v392 val_main_v391 val_main_v390 val_main_v389 val_main_v388 val_main_v387 val_main_v386 val_main_v385 val_main_v384 val_main_v383 val_main_v382 val_main_v381 val_main_v380 val_main_v379 val_main_v378 val_main_v377 val_main_v376 val_main_v375 val_main_v374 val_main_v373 val_main_v372 val_main_v371 val_main_v370 val_main_v369 val_main_v368 val_main_v367 val_main_v366 val_main_v365 val_main_v364 val_main_v363 val_main_v362 val_main_v361 val_main_v360 val_main_v359 val_main_v358 val_main_v357 val_main_v356 val_main_v355 val_main_v354 val_main_v353 val_main_v352 val_main_v351 val_main_v350 val_main_v349 val_main_v348 val_main_v347 val_main_v346 val_main_v345 val_main_v344 val_main_v343 val_main_v342 val_main_v341 val_main_v340 val_main_v339 val_main_v338 val_main_v337 val_main_v336 val_main_v335 val_main_v334 val_main_v333 val_main_v332 val_main_v331 val_main_v330 val_main_v329 val_main_v328 val_main_v327 val_main_v326 val_main_v325 val_main_v324 val_main_v323 val_main_v322 val_main_v321 val_main_v320 val_main_v319 val_main_v318 val_main_v317 val_main_v316 val_main_v315 val_main_v314 val_main_v313 val_main_v312 val_main_v311 val_main_v310 val_main_v309 val_main_v308 val_main_v307 val_main_v306 val_main_v305 val_main_v304 val_main_v303 val_main_v302 val_main_v301 val_main_v300 val_main_v299 val_main_v298 val_main_v297 val_main_v296 val_main_v295 val_main_v294 val_main_v293 val_main_v292 val_main_v291 val_main_v290 val_main_v289 val_main_v288 val_main_v287 val_main_v286 val_main_v285 val_main_v284 val_main_v283 val_main_v282 val_main_v281 val_main_v280 val_main_v279 val_main_v278 val_main_v277 val_main_v276 val_main_v275 val_main_v274 val_main_v273 val_main_v272 val_main_v271 val_main_v270 val_main_v269 val_main_v268 val_main_v267 val_main_v266 val_main_v265 val_main_v264 val_main_v263 val_main_v262 val_main_v261 val_main_v260 val_main_v259 val_main_v258 val_main_v257 val_main_v256 val_main_v255 val_main_v254 val_main_v253 val_main_v252 val_main_v251 val_main_v250 val_main_v249 val_main_v248 val_main_v247 val_main_v246 val_main_v245 val_main_v244 val_main_v243 val_main_v242 val_main_v241 val_main_v240 val_main_v239 val_main_v238 val_main_v237 val_main_v236 val_main_v235 val_main_v234 val_main_v233 val_main_v232 val_main_v231 val_main_v230 val_main_v229 val_main_v228 val_main_v227 val_main_v226 val_main_v225 val_main_v224 val_main_v223 val_main_v222 val_main_v221 val_main_v220 val_main_v219 val_main_v218 val_main_v217 val_main_v216 val_main_v215 val_main_v214 val_main_v213 val_main_v212 val_main_v211 val_main_v210 val_main_v209 val_main_v208 val_main_v207 val_main_v206 val_main_v205 val_main_v204 val_main_v203 val_main_v202 val_main_v201 val_main_v200 val_main_v199 val_main_v198 val_main_v197 val_main_v196 val_main_v195 val_main_v194 val_main_v193 val_main_v192 val_main_v191 val_main_v190 val_main_v189 val_main_v188 val_main_v187 val_main_v186 val_main_v185 val_main_v173 val_main_v174 val_main_cst_21
  generalize val_main_v184 (F := Ideal) X M G W = U
  revert U; refine id ?_; intro U
  pointwise [ProjLayer.convAt]
  simp [Fin.sum_univ_succ]
  abel

/-- The normed and activated convolution. -/
theorem swish_apply (b : Fin 4) (t : Fin 8208) (k : Fin 512) : (val_main_v432 (F := Ideal) X M G W CW CB CG CL : FVec Ideal S4x8208x512 .f32) (ix3 b t k)
    = ProjLayer.normSwish (fun l => (val_main_v405 (F := Ideal) X M G W CW CB : FVec Ideal S4x8208x512 .f32) (ix3 b t ⟨k.val / 128 * 128 + l.val, by omega⟩)) (CG (ix2 0 k)) (CL (ix2 0 k)) ⟨k.val % 128, by omega⟩ := by
  unfold val_main_v432 val_main_call1_v5 val_main_call1_v4 val_main_call1_v3 val_main_call1_v2 val_main_call1_v1 val_main_call1_v0 val_main_call1_cst val_main_call1_cst_0 val_main_v431 val_main_v430 val_main_v429 val_main_v428 val_main_v427 val_main_v426 val_main_v425 val_main_v424 val_main_v423 val_main_v422 val_main_v421 val_main_v420 val_main_v419 val_main_v418 val_main_v417 val_main_v416 val_main_v415 val_main_v414 val_main_v413 val_main_v412 val_main_v411 val_main_v410 val_main_v409 val_main_v408 val_main_v407 val_main_v406 val_main_v175 val_main_v176 val_main_cst_22 val_main_cst_23 val_main_cst_24 val_main_cst_25 val_main_cst_26
  generalize val_main_v405 (F := Ideal) X M G W CW CB = U
  revert U; refine id ?_; intro U
  pointwise [ProjLayer.normSwish]
  have e : ∀ h, (⟨k.val / 128 * 128 + k.val % 128, h⟩ : Fin 512) = k := fun h => Fin.ext (Nat.div_add_mod' k.val 128)
  simp only [e]
  rfl

/-- The first result: the scaled queries. -/
theorem q_apply (b : Fin 4) (s : Fin 8192) (k : Fin 512) : (val_main_v442 (F := Ideal) X M G W : FVec Ideal S4x8192x512 .bf16) (ix3 b s k)
    = ProjLayer.qOut (ProjLayer.rows (fun s e => X (ix3 b s e)) (fun s e => M (ix2 s e)) (fun e => G (ix2 0 e)) (fun e f => W (ix3 0 e f))) s k := by
  have e : ∀ (t : Fin 8208) (k : Fin 512), (val_main_v62 (F := Ideal) X M G W : FVec Ideal S4x8208x512 .f32) (ix3 b t k) = _ := fun t k => rope_q X M G W b t k
  simp only [proj_apply X M G W] at e
  unfold val_main_v442 val_main_v441 val_main_v434 val_main_v433 val_main_cst_27
  generalize val_main_v62 (F := Ideal) X M G W = Q at e ⊢
  revert Q; refine id ?_; intro Q e
  pointwise []
  rw [e]
  simp only [ProjLayer.qOut, show ∀ n, 16 + n + 240 = n + 256 from fun n => by omega, show ∀ n, 16 + n = n + 16 from fun n => by omega]

/-- The second result: the scaled indexer queries. -/
theorem iq_apply (b : Fin 4) (s : Fin 8192) (k : Fin 512) : (val_main_v444 (F := Ideal) X M G W : FVec Ideal S4x8192x512 .bf16) (ix3 b s k)
    = ProjLayer.iqOut (ProjLayer.rows (fun s e => X (ix3 b s e)) (fun s e => M (ix2 s e)) (fun e => G (ix2 0 e)) (fun e f => W (ix3 0 e f))) s k := by
  have e : ∀ (t : Fin 8208) (k : Fin 512), (val_main_v134 (F := Ideal) X M G W : FVec Ideal S4x8208x512 .f32) (ix3 b t k) = _ := fun t k => rope_iq X M G W b t k
  simp only [proj_apply X M G W] at e
  unfold val_main_v444 val_main_v443 val_main_v436 val_main_v435 val_main_cst_28
  generalize val_main_v134 (F := Ideal) X M G W = Q at e ⊢
  revert Q; refine id ?_; intro Q e
  pointwise []
  rw [e]
  simp only [ProjLayer.iqOut, show ∀ n, 16 + n + 240 = n + 256 from fun n => by omega, show ∀ n, 16 + n = n + 16 from fun n => by omega]

/-- The third result: the indexer key and the scaled indexer weights. -/
theorem misc_apply (b : Fin 4) (s : Fin 8192) (k : Fin 128) : (val_main_v445 (F := Ideal) X M G W : FVec Ideal S4x8192x128 .f32) (ix3 b s k)
    = ProjLayer.miscOut (ProjLayer.rows (fun s e => X (ix3 b s e)) (fun s e => M (ix2 s e)) (fun e => G (ix2 0 e)) (fun e f => W (ix3 0 e f))) s k := by
  have e : ∀ (t : Fin 8208) (k : Fin 64), (val_main_v170 (F := Ideal) X M G W : FVec Ideal S4x8208x64 .f32) (ix3 b t k) = _ := fun t k => rope_ik X M G W b t k
  simp only [proj_apply X M G W] at e
  have e' : ∀ (t : Fin 8208) (k : Fin 3144), (val_main_v18 (F := Ideal) X M G W : FVec Ideal S4x8208x3144 .f32) (ix3 b t k) = _ := fun t k => proj_apply X M G W b t k
  unfold val_main_v445 val_main_v438 val_main_v437 val_main_cst_29 val_main_v172 val_main_v171 val_main_cst_18 val_main_v24
  generalize val_main_v170 (F := Ideal) X M G W = Q at e ⊢
  generalize val_main_v18 (F := Ideal) X M G W = P at e' ⊢
  revert Q P; refine id ?_; intro Q e P e'
  pointwise []
  simp only [e, e', ProjLayer.miscOut, show ∀ n, 16 + n + 240 = n + 256 from fun n => by omega, show ∀ n, 16 + n = n + 16 from fun n => by omega]
  by_cases h : k.val < 64
  · simp only [dif_pos h]
  · by_cases h2 : k.val < 72
    · simp only [dif_neg h, dif_pos h2, dif_pos (show k.val - 64 < 8 by omega)]
    · simp only [dif_neg h, dif_neg h2, dif_neg (show ¬ k.val - 64 < 8 by omega)]

/-- The fourth result: the convolution branch. -/
theorem convOut_apply (b : Fin 4) (s : Fin 8192) (k : Fin 512) : (val_main_v447 (F := Ideal) X M G W CW CB CG CL : FVec Ideal S4x8192x512 .bf16) (ix3 b s k)
    = ProjLayer.convOut (ProjLayer.rows (fun s e => X (ix3 b s e)) (fun s e => M (ix2 s e)) (fun e => G (ix2 0 e)) (fun e f => W (ix3 0 e f))) (fun j f => CW (ix3 0 j f)) (fun f => CB (ix2 0 f)) (fun f => CG (ix2 0 f)) (fun f => CL (ix2 0 f)) s k := by
  have e : ∀ (t : Fin 8208) (k : Fin 512), (val_main_v432 (F := Ideal) X M G W CW CB CG CL : FVec Ideal S4x8208x512 .f32) (ix3 b t k) = _ := fun t k => swish_apply X M G W CW CB CG CL b t k
  simp only [conv_apply, padded_apply, gate_apply, proj_apply] at e
  unfold val_main_v447 val_main_v446
  generalize val_main_v432 (F := Ideal) X M G W CW CB CG CL = Q at e ⊢
  revert Q; refine id ?_; intro Q e
  pointwise []
  rw [e]
  simp only [ProjLayer.convOut]
  congr 1
  funext l
  congr 1
  funext j
  by_cases h : 30 ≤ j.val + (16 + s.val)
  · rw [dif_pos h]
    congr 2
    exact congrArg (ProjLayer.rows _ _ _ _) (Fin.ext (by show j.val + (16 + s.val) - 30 + 240 = 226 + s.val + j.val; omega))
  · rw [dif_neg h, ProjLayer.rows_zero _ _ _ _ ⟨226 + s.val + j.val, by omega⟩ (by show 226 + s.val + j.val < 240; omega), ProjLayer.gate_zero]

/-- The fifth result: the keys behind 240 zero rows. -/
theorem k_apply (b : Fin 4) (s : Fin 8448) (k : Fin 512) : (val_main_v449 (F := Ideal) X M G W : FVec Ideal S4x8448x512 .bf16) (ix3 b s k)
    = ProjLayer.kOut (ProjLayer.rows (fun s e => X (ix3 b s e)) (fun s e => M (ix2 s e)) (fun e => G (ix2 0 e)) (fun e f => W (ix3 0 e f))) s k := by
  have e : ∀ (t : Fin 8208) (k : Fin 512), (val_main_v98 (F := Ideal) X M G W : FVec Ideal S4x8208x512 .f32) (ix3 b t k) = _ := fun t k => rope_k X M G W b t k
  simp only [proj_apply X M G W] at e
  unfold val_main_v449 val_main_v448 val_main_call4_v0 val_main_c_32
  generalize val_main_v98 (F := Ideal) X M G W = Q at e ⊢
  revert Q; refine id ?_; intro Q e
  pointwise []
  by_cases h : 240 ≤ s.val
  · rw [dif_pos ⟨h, by omega⟩, e]
    simp only [ProjLayer.kOut, show s.val - 240 + 240 = s.val by omega]
  · rw [dif_neg (fun e => h e.1)]
    exact ProjLayer.sitofp_zero.trans (by rw [ProjLayer.kOut, ProjLayer.rows_zero _ _ _ _ s (by omega)]; exact (ProjLayer.headRope_zero _ _ _ _).symm)

/-- The sixth result: the values behind 240 zero rows. -/
theorem v_apply (b : Fin 4) (s : Fin 8448) (k : Fin 512) : (val_main_v451 (F := Ideal) X M G W : FVec Ideal S4x8448x512 .bf16) (ix3 b s k)
    = ProjLayer.vOut (ProjLayer.rows (fun s e => X (ix3 b s e)) (fun s e => M (ix2 s e)) (fun e => G (ix2 0 e)) (fun e f => W (ix3 0 e f))) s k := by
  have e : ∀ (t : Fin 8208) (k : Fin 3144), (val_main_v18 (F := Ideal) X M G W : FVec Ideal S4x8208x3144 .f32) (ix3 b t k) = _ := fun t k => proj_apply X M G W b t k
  unfold val_main_v451 val_main_v450 val_main_call5_v0 val_main_c_33 val_main_v21
  generalize val_main_v18 (F := Ideal) X M G W = Q at e ⊢
  revert Q; refine id ?_; intro Q e
  pointwise []
  by_cases h : 240 ≤ s.val
  · rw [dif_pos ⟨h, by omega⟩, e]
    simp only [ProjLayer.vOut, show s.val - 240 + 240 = s.val by omega]
  · rw [dif_neg (fun e => h e.1)]
    exact ProjLayer.sitofp_zero.trans (by rw [ProjLayer.vOut, ProjLayer.rows_zero _ _ _ _ s (by omega)])

/-- The seventh result: the indexer keys in the low lanes. -/
theorem ika_apply (b : Fin 4) (s : Fin 8448) (k : Fin 128) : (val_main_v452 (F := Ideal) X M G W : FVec Ideal S4x8448x128 .bf16) (ix3 b s k)
    = ProjLayer.ikaOut (ProjLayer.rows (fun s e => X (ix3 b s e)) (fun s e => M (ix2 s e)) (fun e => G (ix2 0 e)) (fun e f => W (ix3 0 e f))) s k := by
  have e : ∀ (t : Fin 8208) (k : Fin 64), (val_main_v170 (F := Ideal) X M G W : FVec Ideal S4x8208x64 .f32) (ix3 b t k) = _ := fun t k => rope_ik X M G W b t k
  simp only [proj_apply X M G W] at e
  unfold val_main_v452 val_main_v439 val_main_call2_v0 val_main_c_30
  generalize val_main_v170 (F := Ideal) X M G W = Q at e ⊢
  revert Q; refine id ?_; intro Q e
  pointwise []
  by_cases hk : k.val < 64
  · simp only [ProjLayer.ikaOut, dif_pos hk]
    by_cases h : 240 ≤ s.val
    · rw [dif_pos (by omega), e]
      simp only [show s.val - 240 + 240 = s.val by omega]
    · rw [dif_neg (by omega), ProjLayer.rows_zero _ _ _ _ s (by omega), ProjLayer.keyRope_zero]
      exact ProjLayer.sitofp_zero
  · simp only [ProjLayer.ikaOut, dif_neg hk]
    rw [dif_neg (by omega)]; exact ProjLayer.sitofp_zero

/-- The eighth result: the indexer keys in the high lanes. -/
theorem ikb_apply (b : Fin 4) (s : Fin 8448) (k : Fin 128) : (val_main_v453 (F := Ideal) X M G W : FVec Ideal S4x8448x128 .bf16) (ix3 b s k)
    = ProjLayer.ikbOut (ProjLayer.rows (fun s e => X (ix3 b s e)) (fun s e => M (ix2 s e)) (fun e => G (ix2 0 e)) (fun e f => W (ix3 0 e f))) s k := by
  have e : ∀ (t : Fin 8208) (k : Fin 64), (val_main_v170 (F := Ideal) X M G W : FVec Ideal S4x8208x64 .f32) (ix3 b t k) = _ := fun t k => rope_ik X M G W b t k
  simp only [proj_apply X M G W] at e
  unfold val_main_v453 val_main_v440 val_main_call3_v0 val_main_c_31
  generalize val_main_v170 (F := Ideal) X M G W = Q at e ⊢
  revert Q; refine id ?_; intro Q e
  pointwise []
  by_cases hk : k.val < 64
  · simp only [ProjLayer.ikbOut, dif_pos hk]
    rw [dif_neg (by omega)]; exact ProjLayer.sitofp_zero
  · simp only [ProjLayer.ikbOut, dif_neg hk]
    by_cases h : 240 ≤ s.val
    · rw [dif_pos (by omega), e]
      simp only [show s.val - 240 + 240 = s.val by omega]
    · rw [dif_neg (by omega), ProjLayer.rows_zero _ _ _ _ s (by omega), ProjLayer.keyRope_zero]
      exact ProjLayer.sitofp_zero

end Cert.ProjRefIdeal.Value
end
-- ==== Proof.Proj.RefRun.lean ====
/- The run of the projections written plainly, each result named by its stage. -/
module

public import proofs.«01_k».proof.Proof.Gen.ProjRefIdeal.Run
public import proofs.«01_k».proof.Proof.Gen.ProjRefIdeal.Read
public import Idealize.ShloMosaic.Lib.StableHlo.Run

@[expose] public section
set_option maxRecDepth 16384
set_option maxHeartbeats 1000000

noncomputable section
namespace Cert.ProjRefIdeal.Value
open Cert.ProjRefIdeal Cert.ProjRefIdeal.Gen Idealize.ShloMosaic Idealize.ShloMosaic.TcCoe Idealize.SL.Sem Idealize.ShloMosaic.StableHlo

/-- The reference runs, its eight results the stages at the arguments, the arguments kept. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v442) = Cert.ProjRefIdeal.Read.val_main_v442 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v444) = Cert.ProjRefIdeal.Read.val_main_v444 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v445) = Cert.ProjRefIdeal.Read.val_main_v445 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v447) = Cert.ProjRefIdeal.Read.val_main_v447 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v449) = Cert.ProjRefIdeal.Read.val_main_v449 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v451) = Cert.ProjRefIdeal.Read.val_main_v451 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v452) = Cert.ProjRefIdeal.Read.val_main_v452 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v453) = Cert.ProjRefIdeal.Read.val_main_v453 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono ?_ (run (F := Ideal) m ρ)
  intro r hr c
  have h := hr c
  clear hr
  refine ⟨h.1.trans (Cert.ProjRefIdeal.Read.val_main_v442_eq (launchContents m c)), ?_⟩
  replace h := h.2
  refine ⟨h.1.trans (Cert.ProjRefIdeal.Read.val_main_v444_eq (launchContents m c)), ?_⟩
  replace h := h.2
  refine ⟨h.1.trans (Cert.ProjRefIdeal.Read.val_main_v445_eq (launchContents m c)), ?_⟩
  replace h := h.2
  refine ⟨h.1.trans (Cert.ProjRefIdeal.Read.val_main_v447_eq (launchContents m c)), ?_⟩
  replace h := h.2
  refine ⟨h.1.trans (Cert.ProjRefIdeal.Read.val_main_v449_eq (launchContents m c)), ?_⟩
  replace h := h.2
  refine ⟨h.1.trans (Cert.ProjRefIdeal.Read.val_main_v451_eq (launchContents m c)), ?_⟩
  replace h := h.2
  refine ⟨h.1.trans (Cert.ProjRefIdeal.Read.val_main_v452_eq (launchContents m c)), ?_⟩
  replace h := h.2
  refine ⟨h.1.trans (Cert.ProjRefIdeal.Read.val_main_v453_eq (launchContents m c)), ?_⟩
  replace h := h.2
  exact h

end Cert.ProjRefIdeal.Value
end
-- ==== Proof.DsaIdeal.Loops.lean ====
/- The sparse attention's (ideal program) row-group loop and the two searches inside it, by invariants that name no
   value: what the frame needs is only which buffers a trip reads and writes. -/
module

public import proofs.«01_k».proof.Proof.Gen.DsaIdeal.Skeleton
public import proofs.«01_k».proof.Proof.Gen.DsaIdeal.Loops
public import Idealize.ShloMosaic.Lib.Tactic

@[expose] public section

set_option maxRecDepth 16384

noncomputable section

namespace Cert.DsaIdeal.Hand

open Cert.DsaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option warn.classDefReducibility false in
set_option maxHeartbeats 1000000 in
/-- The bisection over column positions that settles ties at the threshold: it only reads the scores,
    whatever bound it has reached. -/
@[sl_loop] def loopInv_k0_t9 (𝒱 : Variants) (c : Dev nD) (bd : Option 𝒱.V) (E : Set ℕ) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x256x128 .f32) (harg4 : arg4.IsWhole) (arg5 : Memref sig .tc .vmem S1x8448x128 .bf16) (harg5 : arg5.IsWhole) (arg6 : Memref sig .tc .vmem S1x8448x128 .bf16) (harg6 : arg6.IsWhole) (arg7 : Memref sig .tc .vmem S1x8448x512 .bf16) (harg7 : arg7.IsWhole) (arg8 : Memref sig .tc .vmem S1x8448x512 .bf16) (harg8 : arg8.IsWhole) (arg9 : Memref sig .tc .vmem S1x256x512 .bf16) (harg9 : arg9.IsWhole) (arg10 : Memref sig .tc .vmem S33x256x256 .f32) (harg10 : arg10.IsWhole) (arg11 : Memref sig .tc .vmem S8x256x128 .f32) (harg11 : arg11.IsWhole) (arg12 : Memref sig .tc .vmem S256x128 .f32) (harg12 : arg12.IsWhole) (arg13 : Memref sig .tc .vmem S4x256x1 .f32) (harg13 : arg13.IsWhole) (arg14 : Memref sig .tc .vmem S4x256x1 .f32) (harg14 : arg14.IsWhole) (arg15 : Memref sig .tc .vmem S4x256x128 .f32) (harg15 : arg15.IsWhole) (v0 : BitVec 32) (k0_t3 : Fin k0_t3_loop.trips) (v383 : BitVec 32) (v394_0 : IVec S64x1 32) (v401 : FVec F S64x1 .f32) (v409 : IVec S64x1 1) (v439 : FVec F S64x256 .f32) (X_arg10 : BufTy.Contents (Elt F) arg10.view.ty) (init : IVec S64x1 32) :
    LoopInvTy_k0_t9 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 v0 k0_t3 v383 v394_0 v401 v409 v439 init where
  inv _ _ := iprop((arg10.view.loc (c : Thread nD τ) ↦[arg10.view.set]{fullShare} X_arg10))
  step k acc := by
    iintro H10
    unfold k0_t9_body
    sl_exec
    sl_step
    iexact H10

set_option warn.classDefReducibility false in
set_option maxHeartbeats 1000000 in
/-- The bisection over the threshold's 32 bits: it only reads the scores, whatever prefix it has reached. -/
@[sl_loop] def loopInv_k0_t4 (𝒱 : Variants) (c : Dev nD) (bd : Option 𝒱.V) (E : Set ℕ) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x256x128 .f32) (harg4 : arg4.IsWhole) (arg5 : Memref sig .tc .vmem S1x8448x128 .bf16) (harg5 : arg5.IsWhole) (arg6 : Memref sig .tc .vmem S1x8448x128 .bf16) (harg6 : arg6.IsWhole) (arg7 : Memref sig .tc .vmem S1x8448x512 .bf16) (harg7 : arg7.IsWhole) (arg8 : Memref sig .tc .vmem S1x8448x512 .bf16) (harg8 : arg8.IsWhole) (arg9 : Memref sig .tc .vmem S1x256x512 .bf16) (harg9 : arg9.IsWhole) (arg10 : Memref sig .tc .vmem S33x256x256 .f32) (harg10 : arg10.IsWhole) (arg11 : Memref sig .tc .vmem S8x256x128 .f32) (harg11 : arg11.IsWhole) (arg12 : Memref sig .tc .vmem S256x128 .f32) (harg12 : arg12.IsWhole) (arg13 : Memref sig .tc .vmem S4x256x1 .f32) (harg13 : arg13.IsWhole) (arg14 : Memref sig .tc .vmem S4x256x1 .f32) (harg14 : arg14.IsWhole) (arg15 : Memref sig .tc .vmem S4x256x128 .f32) (harg15 : arg15.IsWhole) (v0 : BitVec 32) (v2 : BitVec 32) (v184 : IVec S256x256 1) (v279 : FVec F S256x128 .f32) (v283 : FVec F S256x256 .f32) (v285 : FVec F S256x128 .f32) (v287 : FVec F S256x128 .f32) (v297 : FVec F S256x128 .f32) (v298 : FVec F S256x128 .f32) (v299 : FVec F S256x128 .f32) (k0_t3 : Fin k0_t3_loop.trips) (X_arg10 : BufTy.Contents (Elt F) arg10.view.ty) (init : IVec S64x1 32 × FVec F S64x1 .f32) :
    LoopInvTy_k0_t4 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 v0 v2 v184 v279 v283 v285 v287 v297 v298 v299 k0_t3 init where
  inv _ _ := iprop((arg10.view.loc (c : Thread nD τ) ↦[arg10.view.set]{fullShare} X_arg10))
  step k acc := by
    iintro H10
    unfold k0_t4_body
    sl_exec
    sl_step
    iexact H10

set_option warn.classDefReducibility false in
set_option maxHeartbeats 2000000 in
/-- The loop over groups of 64 rows: a trip reads the scores, stores the group's thresholds and, where a
    row has ties at its threshold, drops scores; both buffers are held at some contents. -/
@[sl_loop] def loopInv_k0_t3 (𝒱 : Variants) (c : Dev nD) (bd : Option 𝒱.V) (E : Set ℕ) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x256x128 .f32) (harg4 : arg4.IsWhole) (arg5 : Memref sig .tc .vmem S1x8448x128 .bf16) (harg5 : arg5.IsWhole) (arg6 : Memref sig .tc .vmem S1x8448x128 .bf16) (harg6 : arg6.IsWhole) (arg7 : Memref sig .tc .vmem S1x8448x512 .bf16) (harg7 : arg7.IsWhole) (arg8 : Memref sig .tc .vmem S1x8448x512 .bf16) (harg8 : arg8.IsWhole) (arg9 : Memref sig .tc .vmem S1x256x512 .bf16) (harg9 : arg9.IsWhole) (arg10 : Memref sig .tc .vmem S33x256x256 .f32) (harg10 : arg10.IsWhole) (arg11 : Memref sig .tc .vmem S8x256x128 .f32) (harg11 : arg11.IsWhole) (arg12 : Memref sig .tc .vmem S256x128 .f32) (harg12 : arg12.IsWhole) (arg13 : Memref sig .tc .vmem S4x256x1 .f32) (harg13 : arg13.IsWhole) (arg14 : Memref sig .tc .vmem S4x256x1 .f32) (harg14 : arg14.IsWhole) (arg15 : Memref sig .tc .vmem S4x256x128 .f32) (harg15 : arg15.IsWhole) (v0 : BitVec 32) (v2 : BitVec 32) (v184 : IVec S256x256 1) (v279 : FVec F S256x128 .f32) (v283 : FVec F S256x256 .f32) (v285 : FVec F S256x128 .f32) (v287 : FVec F S256x128 .f32) (v297 : FVec F S256x128 .f32) (v298 : FVec F S256x128 .f32) (v299 : FVec F S256x128 .f32) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 v0 v2 v184 v279 v283 v285 v287 v297 v298 v299 where
  inv _ _ := iprop((∃ f, (arg10.view.loc (c : Thread nD τ) ↦[arg10.view.set]{fullShare} f)) ∗ (∃ f, (arg12.view.loc (c : Thread nD τ) ↦[arg12.view.set]{fullShare} f)))
  step k acc := by
    iintro ⟨⟨%f10, H10⟩, ⟨%f12, H12⟩⟩
    unfold k0_t3_body
    simp only [k0_part7_eq_skeleton]
    sl_exec
    beta_reduce
    split
    · sl_exec
      sl_step
      isplitl [H10]
      · iexists _; iexact H10
      iexists _; iexact H12
    · sl_exec
      sl_step
      isplitl [H10]
      · iexists _; iexact H10
      iexists _; iexact H12

end Cert.DsaIdeal.Hand

end
-- ==== Proof.DsaIdeal.Run.lean ====
/- One run of the sparse attention's (ideal program) body at a grid point. -/
module

public import proofs.«01_k».proof.Proof.DsaIdeal.Loops
public import proofs.«01_k».proof.Proof.Gen.DsaIdeal.Frame

@[expose] public section

set_option maxRecDepth 16384

noncomputable section

namespace Cert.DsaIdeal.Hand

open Cert.DsaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the run is stated over: no counters beside the points-tos. -/
abbrev MF (F : FTy → Type) [FloatOps F] := MT nD τ sig Unit (Elt F) ℕ (UR sig nD τ) ℕ

set_option maxHeartbeats 4000000 in
/-- The body at a grid point, on whole memrefs: given the seven inputs at any contents and the output and
    the six scratch buffers at some contents, it ends with the inputs as they were and the others at some contents. -/
theorem bodyRun (c : Dev nD) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x256x128 .f32) (harg4 : arg4.IsWhole) (arg5 : Memref sig .tc .vmem S1x8448x128 .bf16) (harg5 : arg5.IsWhole) (arg6 : Memref sig .tc .vmem S1x8448x128 .bf16) (harg6 : arg6.IsWhole) (arg7 : Memref sig .tc .vmem S1x8448x512 .bf16) (harg7 : arg7.IsWhole) (arg8 : Memref sig .tc .vmem S1x8448x512 .bf16) (harg8 : arg8.IsWhole) (arg9 : Memref sig .tc .vmem S1x256x512 .bf16) (harg9 : arg9.IsWhole) (arg10 : Memref sig .tc .vmem S33x256x256 .f32) (harg10 : arg10.IsWhole) (arg11 : Memref sig .tc .vmem S8x256x128 .f32) (harg11 : arg11.IsWhole) (arg12 : Memref sig .tc .vmem S256x128 .f32) (harg12 : arg12.IsWhole) (arg13 : Memref sig .tc .vmem S4x256x1 .f32) (harg13 : arg13.IsWhole) (arg14 : Memref sig .tc .vmem S4x256x1 .f32) (harg14 : arg14.IsWhole) (arg15 : Memref sig .tc .vmem S4x256x128 .f32) (harg15 : arg15.IsWhole)
    (x0 : Vec F S1x256x512 .bf16) (x1 : Vec F S1x256x512 .bf16) (x2 : Vec F S1x256x128 .f32) (x3 : Vec F S1x8448x128 .bf16) (x4 : Vec F S1x8448x128 .bf16) (x5 : Vec F S1x8448x512 .bf16) (x6 : Vec F S1x8448x512 .bf16) :
      ∀ (E : Set ℕ) (K : PUnit → sProp (MF F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_dsa_attention i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_dsa_attention_eq_skeleton]; unfold cc0_dsa_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.DsaIdeal.Hand

end
-- ==== Proof.DsaIdeal.Frame.lean ====
/- The sparse attention's (ideal program) frame: its run at every grid point, then the launch. -/
module

public import proofs.«01_k».proof.Proof.DsaIdeal.Run
public import proofs.«01_k».proof.Proof.Gen.DsaIdeal.Frame
public import Idealize.ShloMosaic.Lib.Claim

@[expose] public section

set_option maxRecDepth 16384

noncomputable section

namespace Cert.DsaIdeal.Hand

open Cert.DsaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The staging memref each window uses at grid point `t`, and that it is a whole buffer. -/
abbrev ms0_0 (t : Fin cfg0.N) : Memref sig .tc .vmem S1x256x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8448x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8448x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8448x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8448x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x512 .bf16 := win0_7.stage (cfg0.slots t 7)
abbrev hs0_7 (t : Fin cfg0.N) : (ms0_7 t).IsWhole := hstage0_7 ((cfg0.slots t 7).cast nbuf0_7)
/-- The six scratch buffers as memrefs. -/
abbrev scM0_0 : Memref sig .tc .vmem S33x256x256 .f32 := Memref.whole cc0_scratch0
abbrev scM0_1 : Memref sig .tc .vmem S8x256x128 .f32 := Memref.whole cc0_scratch1
abbrev scM0_2 : Memref sig .tc .vmem S256x128 .f32 := Memref.whole cc0_scratch2
abbrev scM0_3 : Memref sig .tc .vmem S4x256x1 .f32 := Memref.whole cc0_scratch3
abbrev scM0_4 : Memref sig .tc .vmem S4x256x1 .f32 := Memref.whole cc0_scratch4
abbrev scM0_5 : Memref sig .tc .vmem S4x256x128 .f32 := Memref.whole cc0_scratch5

/-- Between grid points the core holds its six scratch buffers at some contents and its generator's register. -/
theorem PhiA0_eq (c : Dev nD) :
    (Pipeline.ΦA spec0 c : sProp (MF F))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- A run whose pipeline arrays end as the proof data says leaves every argument array as it was. -/
theorem frameOf (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c))⟩) h

/-- The output window is the one whose contents are not named. -/
def forgets0 : Fin 8 → Bool := fun w => w.val == 7

/-- What holds of the pipeline at each grid point: the arrays are as the region found them, each input's
    staging buffer holds its block, the output's contents are unnamed, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q _ := fullShare
  owed _ := 0

/-- The arrays the proof data names are those the region found. -/
theorem A_eq (c : Dev nD) (w : Fin cfg0.W) : (dats m 0 c).A w = V m c (Pipeline.arrRef spec0 w) := by
  dsimp only [dats]

/-- After a grid point, each input's staging buffer still holds its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Before a grid point, each input's staging buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is given at grid point `t`. -/
def bodyPre (c : Dev nD) (t : Fin cfg0.N) : sProp (MF F) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

/-- What the body gives back at grid point `t`. -/
def bodyPost (c : Dev nD) (t : Fin cfg0.N) : sProp (MF F) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d))

set_option maxHeartbeats 1200000 in
/-- At every grid point the body runs from `bodyPre` to `bodyPost`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((bodyRun c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body the pipeline calls at grid point `t` is the kernel on that point's staging buffers. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every grid point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The whole launch terminates, with the pipeline's arrays as its proof data says and every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the semaphores. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Every argument array ends as it began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frameOf m ρ (fun c => (dats m 0 c).toRForget forgets0) (A_eq m) (run_main m ρ)

/-- The frame claim, for any float values: the kernel terminates without a fault, every argument array ends
    as it began, and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.DsaIdeal.Hand

end
-- ==== Proof.lean ====
module

public import proofs.«01_k».proof.Defs
public import proofs.«01_k».proof.Proof.Gen.Mlp.Frame
public import proofs.«01_k».proof.Proof.Gen.MlpIdeal.Frame
public import proofs.«01_k».proof.Proof.Mlp.Kernel
public import proofs.«01_k».proof.Proof.Mlp.Ref
public import proofs.«01_k».proof.Proof.Gen.Proj.Frame
public import proofs.«01_k».proof.Proof.Gen.ProjIdeal.Frame
public import proofs.«01_k».proof.Proof.Proj.Conv
public import proofs.«01_k».proof.Proof.Proj.Ref
public import proofs.«01_k».proof.Proof.Proj.RefRun
public import proofs.«01_k».proof.Proof.Dsa.Frame
public import proofs.«01_k».proof.Proof.DsaIdeal.Frame
public import Idealize.ShloMosaic.Adequacy
public import Idealize.ShloMosaic.Init

@[expose] public section

set_option maxHeartbeats 1000000

noncomputable section

namespace Cert.Proof

open Idealize.ShloMosaic Idealize.SL.Sem

/-- The channel mixer: the kernel and the reference end with the same array. -/
theorem algebraic_mlp : Cert.algebraic_MlpIdeal_MlpRefIdeal := by
  pair_intro
  · run_from Cert.MlpIdeal.Value.run_blocks m g
  · run_from Cert.MlpRefIdeal.Value.run m' g'
    obtain ⟨a0, a1, a2, a3, a4, a5, a6, a7⟩ := hagree c
    refine (Cert.MlpRefIdeal.Value.res_eq m' c).trans ?_
    rw [a0, a1, a2, a3, a4, a5, a6, a7, Cert.MlpIdeal.Value.final m c]
    refine funext fun (i : Cert.MlpRefIdeal.S4x8192x1024.Idx) => ?_
    idx_vars i
    exact Cert.MlpRefIdeal.Value.refOut_apply _ _ _ _ _ _ _ _ _ _ _

section agree
variable (m : (ℓ : Loc Cert.ProjIdeal.nD Cert.ProjIdeal.τ Cert.ProjIdeal.sig) → Buf (Elt Ideal) ℓ) (c : Dev Cert.ProjIdeal.nD)
/-- The reference's queries: the same function of the arguments as the kernel's. -/
theorem agree0 : Cert.ProjRefIdeal.Read.val_main_v442 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) = Cert.ProjIdeal.Value.qArr m c := by
  refine funext fun (i : Cert.ProjRefIdeal.S4x8192x512.Idx) => ?_
  idx_vars i
  exact Cert.ProjRefIdeal.Value.q_apply _ _ _ _ i0 i1 i2
/-- The reference's indexer queries: the same function of the arguments as the kernel's. -/
theorem agree1 : Cert.ProjRefIdeal.Read.val_main_v444 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) = Cert.ProjIdeal.Value.iqArr m c := by
  refine funext fun (i : Cert.ProjRefIdeal.S4x8192x512.Idx) => ?_
  idx_vars i
  exact Cert.ProjRefIdeal.Value.iq_apply _ _ _ _ i0 i1 i2
/-- The reference's indexer key and weights: the same function of the arguments as the kernel's. -/
theorem agree2 : Cert.ProjRefIdeal.Read.val_main_v445 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) = Cert.ProjIdeal.Value.miscArr m c := by
  refine funext fun (i : Cert.ProjRefIdeal.S4x8192x128.Idx) => ?_
  idx_vars i
  exact Cert.ProjRefIdeal.Value.misc_apply _ _ _ _ i0 i1 i2
/-- The reference's convolution branch: the same function of the arguments as the kernel's. -/
theorem agree3 : Cert.ProjRefIdeal.Read.val_main_v447 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) = Cert.ProjIdeal.Value.convArr m c := by
  refine funext fun (i : Cert.ProjRefIdeal.S4x8192x512.Idx) => ?_
  idx_vars i
  exact Cert.ProjRefIdeal.Value.convOut_apply _ _ _ _ _ _ _ _ i0 i1 i2
/-- The reference's keys: the same function of the arguments as the kernel's. -/
theorem agree4 : Cert.ProjRefIdeal.Read.val_main_v449 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) = Cert.ProjIdeal.Value.kArr m c := by
  refine funext fun (i : Cert.ProjRefIdeal.S4x8448x512.Idx) => ?_
  idx_vars i
  exact Cert.ProjRefIdeal.Value.k_apply _ _ _ _ i0 i1 i2
/-- The reference's values: the same function of the arguments as the kernel's. -/
theorem agree5 : Cert.ProjRefIdeal.Read.val_main_v451 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) = Cert.ProjIdeal.Value.vArr m c := by
  refine funext fun (i : Cert.ProjRefIdeal.S4x8448x512.Idx) => ?_
  idx_vars i
  exact Cert.ProjRefIdeal.Value.v_apply _ _ _ _ i0 i1 i2
/-- The reference's indexer keys in the low lanes: the same function of the arguments as the kernel's. -/
theorem agree6 : Cert.ProjRefIdeal.Read.val_main_v452 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) = Cert.ProjIdeal.Value.ikaArr m c := by
  refine funext fun (i : Cert.ProjRefIdeal.S4x8448x128.Idx) => ?_
  idx_vars i
  exact Cert.ProjRefIdeal.Value.ika_apply _ _ _ _ i0 i1 i2
/-- The reference's indexer keys in the high lanes: the same function of the arguments as the kernel's. -/
theorem agree7 : Cert.ProjRefIdeal.Read.val_main_v453 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) = Cert.ProjIdeal.Value.ikbArr m c := by
  refine funext fun (i : Cert.ProjRefIdeal.S4x8448x128.Idx) => ?_
  idx_vars i
  exact Cert.ProjRefIdeal.Value.ikb_apply _ _ _ _ i0 i1 i2
end agree

/-- The projections: the kernel and the reference end with the same eight arrays. -/
theorem algebraic_proj : Cert.algebraic_ProjIdeal_ProjRefIdeal := by
  pair_intro
  · run_from Cert.ProjIdeal.Value.run_blocks m g
  · refine θ_run_mono (Cert.ProjRefIdeal.Value.run_vals m' g') ?_
    intro r hr c
    obtain ⟨a0, a1, a2, a3, a4, a5, a6, a7⟩ := hagree c
    have h := hr c
    clear hr
    rw [a0, a1, a2, a3, a4, a5, a6, a7] at h
    rw [a0, a1, a2, a3, a4, a5, a6, a7]
    exact ⟨h.1.trans ((agree0 m c).trans (Cert.ProjIdeal.Value.final10 m c).symm),
      h.2.1.trans ((agree1 m c).trans (Cert.ProjIdeal.Value.final11 m c).symm),
      h.2.2.1.trans ((agree2 m c).trans (Cert.ProjIdeal.Value.final12 m c).symm),
      h.2.2.2.1.trans ((agree3 m c).trans (Cert.ProjIdeal.Value.final13 m c).symm),
      h.2.2.2.2.1.trans ((agree4 m c).trans (Cert.ProjIdeal.Value.final14 m c).symm),
      h.2.2.2.2.2.1.trans ((agree5 m c).trans (Cert.ProjIdeal.Value.final15 m c).symm),
      h.2.2.2.2.2.2.1.trans ((agree6 m c).trans (Cert.ProjIdeal.Value.final16 m c).symm),
      h.2.2.2.2.2.2.2.1.trans ((agree7 m c).trans (Cert.ProjIdeal.Value.final17 m c).symm),
      h.2.2.2.2.2.2.2.2⟩

/-- The claims of the two layers with values, and the frames of the sparse attention. -/
theorem claim : Cert.Claim := ⟨Cert.Mlp.Gen.facts, Cert.MlpIdeal.Gen.facts, Cert.MlpRefIdeal.Gen.facts,
  Cert.Proj.Gen.facts, Cert.ProjIdeal.Gen.facts, Cert.ProjRefIdeal.Gen.facts,
  Cert.Dsa.Gen.facts, Cert.DsaIdeal.Gen.facts,
  fun m ρ _ => Cert.Mlp.Gen.frame m ρ, fun m ρ _ => Cert.MlpIdeal.Gen.frame m ρ,
  fun m ρ _ => (θ_run _ _ _).mono (fun r h => ⟨fun c => (h c).2, funext fun s => by rcases s with ⟨a, b⟩; rcases b with b | b <;> exact absurd b.isLt (Nat.not_lt_zero _)⟩) (Cert.MlpRefIdeal.Value.run m ρ),
  fun m ρ _ => Cert.Proj.Gen.frame m ρ, fun m ρ _ => Cert.ProjIdeal.Gen.frame m ρ,
  fun m ρ _ => (θ_run _ _ _).mono (fun r h => ⟨fun c => (h c).2.2.2.2.2.2.2.2, funext fun s => by rcases s with ⟨a, b⟩; rcases b with b | b <;> exact absurd b.isLt (Nat.not_lt_zero _)⟩) (Cert.ProjRefIdeal.Value.run m ρ),
  fun m ρ _ => Cert.Dsa.Hand.frame m ρ, fun m ρ _ => Cert.DsaIdeal.Hand.frame m ρ,
  trivial, algebraic_mlp, trivial, algebraic_proj, trivial⟩

end Cert.Proof

end
